-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S1000x512 : Shape := ⟨2, ![1000, 512]⟩
abbrev S512x512 : Shape := ⟨2, ![512, 512]⟩
abbrev S512 : Shape := ⟨1, ![512]⟩
abbrev S512x1000 : Shape := ⟨2, ![512, 1000]⟩
abbrev S1000 : Shape := ⟨1, ![1000]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000x512 .f32) (main_arg2 : FVec F S512x512 .f32) (main_arg3 : FVec F S512 .f32) (main_arg4 : FVec F S512x1000 .f32) (main_arg5 : FVec F S1000 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000x512 : Shape := ⟨2, ![1000, 512]⟩
abbrev S512x512 : Shape := ⟨2, ![512, 512]⟩
abbrev S512 : Shape := ⟨1, ![512]⟩
abbrev S512x1000 : Shape := ⟨2, ![512, 1000]⟩
abbrev S1000 : Shape := ⟨1, ![1000]⟩
abbrev S4096x1024 : Shape := ⟨2, ![4096, 1024]⟩
abbrev S64x200 : Shape := ⟨2, ![64, 200]⟩
abbrev S64x1024 : Shape := ⟨2, ![64, 1024]⟩
abbrev S16 : Shape := ⟨1, ![16]⟩
abbrev S_ : Shape := ⟨0, ![]⟩
abbrev S1x16 : Shape := ⟨2, ![1, 16]⟩
abbrev S1x512 : Shape := ⟨2, ![1, 512]⟩
abbrev S1x1000 : Shape := ⟨2, ![1, 1000]⟩
abbrev S4096x1000 : Shape := ⟨2, ![4096, 1000]⟩
abbrev S256x1024 : Shape := ⟨2, ![256, 1024]⟩
abbrev S256x1000 : Shape := ⟨2, ![256, 1000]⟩
abbrev S256x1 : Shape := ⟨2, ![256, 1]⟩
abbrev S256x512 : Shape := ⟨2, ![256, 512]⟩

abbrev nBuf : Table → Nat
  | .hbm => 10
  | .local .tc .vmem => 9
  | .local .scVector .vmem => 2
  | _ => 0

abbrev bufTy : (tb : Table) → Fin (nBuf tb) → BufTy
  | .hbm, ⟨0, _⟩ => ⟨S4096x200, .i32⟩
  | .hbm, ⟨1, _⟩ => ⟨S1000x512, .f32⟩
  | .hbm, ⟨2, _⟩ => ⟨S512x512, .f32⟩
  | .hbm, ⟨3, _⟩ => ⟨S512, .f32⟩
  | .hbm, ⟨4, _⟩ => ⟨S512x1000, .f32⟩
  | .hbm, ⟨5, _⟩ => ⟨S1000, .f32⟩
  | .hbm, ⟨6, _⟩ => ⟨S4096x1024, .f32⟩
  | .hbm, ⟨7, _⟩ => ⟨S1x512, .f32⟩
  | .hbm, ⟨8, _⟩ => ⟨S1x1000, .f32⟩
  | .hbm, ⟨9, _⟩ => ⟨S4096x1000, .f32⟩
  | .local .tc .vmem, ⟨0, _⟩ => ⟨S256x1024, .f32⟩
  | .local .tc .vmem, ⟨1, _⟩ => ⟨S256x1024, .f32⟩
  | .local .tc .vmem, ⟨2, _⟩ => ⟨S1000x512, .f32⟩
  | .local .tc .vmem, ⟨3, _⟩ => ⟨S512x512, .f32⟩
  | .local .tc .vmem, ⟨4, _⟩ => ⟨S1x512, .f32⟩
  | .local .tc .vmem, ⟨5, _⟩ => ⟨S512x1000, .f32⟩
  | .local .tc .vmem, ⟨6, _⟩ => ⟨S1x1000, .f32⟩
  | .local .tc .vmem, ⟨7, _⟩ => ⟨S256x1000, .f32⟩
  | .local .tc .vmem, ⟨8, _⟩ => ⟨S256x1000, .f32⟩
  | .local .scVector .vmem, ⟨0, _⟩ => ⟨S64x200, .i32⟩
  | .local .scVector .vmem, ⟨1, _⟩ => ⟨S64x1024, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_v0_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg6_1 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v7 : BitVec 32 := Scalar.muli v1 c128_i32
  let v8 : BitVec 32 := Scalar.addi v7 c0_i32
  let c0_i32_21_r0 : BitVec 32 := 0#32
  ![v8.toNat, 0]
@[reducible] def k0_t1_loop : Scf.Loop 32 :=
  let c0_i32_2 : BitVec 32 := 0#32
  let c64_i32 : BitVec 32 := 64#32
  let v9 : BitVec 32 := Scalar.addi c0_i32_2 c64_i32
  let c1_i32 : BitVec 32 := 1#32
  ⟨c0_i32_2, v9, c1_i32⟩
def k0_off2 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v15 : Index := Scalar.indexCast arg6
  let c0 : Index := 0#32
  ![v15.toNat, 0]
def k0_off3 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v17 : Index := Scalar.indexCast arg6
  let c16 : Index := 16#32
  ![v17.toNat, 16]
def k0_off4 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v19 : Index := Scalar.indexCast arg6
  let c32 : Index := 32#32
  ![v19.toNat, 32]
def k0_off5 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v21 : Index := Scalar.indexCast arg6
  let c48 : Index := 48#32
  ![v21.toNat, 48]
def k0_off6 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v23 : Index := Scalar.indexCast arg6
  let c64 : Index := 64#32
  ![v23.toNat, 64]
def k0_off7 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v25 : Index := Scalar.indexCast arg6
  let c80 : Index := 80#32
  ![v25.toNat, 80]
def k0_off8 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v27 : Index := Scalar.indexCast arg6
  let c96 : Index := 96#32
  ![v27.toNat, 96]
def k0_off9 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v29 : Index := Scalar.indexCast arg6
  let c112 : Index := 112#32
  ![v29.toNat, 112]
def k0_off10 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v31 : Index := Scalar.indexCast arg6
  let c128 : Index := 128#32
  ![v31.toNat, 128]
def k0_off11 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v33 : Index := Scalar.indexCast arg6
  let c144 : Index := 144#32
  ![v33.toNat, 144]
def k0_off12 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v35 : Index := Scalar.indexCast arg6
  let c160 : Index := 160#32
  ![v35.toNat, 160]
def k0_off13 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v37 : Index := Scalar.indexCast arg6
  let c176 : Index := 176#32
  ![v37.toNat, 176]
def k0_off14 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v39 : Index := Scalar.indexCast arg6
  let c192 : Index := 192#32
  ![v39.toNat, 192]
def k0_off15 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v41 : Index := Scalar.indexCast arg6
  let c208 : Index := 208#32
  ![v41.toNat, 208]
def k0_off16 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v43 : Index := Scalar.indexCast arg6
  let c224 : Index := 224#32
  ![v43.toNat, 224]
def k0_off17 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v45 : Index := Scalar.indexCast arg6
  let c240 : Index := 240#32
  ![v45.toNat, 240]
def k0_off18 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v47 : Index := Scalar.indexCast arg6
  let c256 : Index := 256#32
  ![v47.toNat, 256]
def k0_off19 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v49 : Index := Scalar.indexCast arg6
  let c272 : Index := 272#32
  ![v49.toNat, 272]
def k0_off20 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v51 : Index := Scalar.indexCast arg6
  let c288 : Index := 288#32
  ![v51.toNat, 288]
def k0_off21 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v53 : Index := Scalar.indexCast arg6
  let c304 : Index := 304#32
  ![v53.toNat, 304]
def k0_off22 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v55 : Index := Scalar.indexCast arg6
  let c320 : Index := 320#32
  ![v55.toNat, 320]
def k0_off23 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v57 : Index := Scalar.indexCast arg6
  let c336 : Index := 336#32
  ![v57.toNat, 336]
def k0_off24 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v59 : Index := Scalar.indexCast arg6
  let c352 : Index := 352#32
  ![v59.toNat, 352]
def k0_off25 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v61 : Index := Scalar.indexCast arg6
  let c368 : Index := 368#32
  ![v61.toNat, 368]
def k0_off26 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v63 : Index := Scalar.indexCast arg6
  let c384 : Index := 384#32
  ![v63.toNat, 384]
def k0_off27 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v65 : Index := Scalar.indexCast arg6
  let c400 : Index := 400#32
  ![v65.toNat, 400]
def k0_off28 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v67 : Index := Scalar.indexCast arg6
  let c416 : Index := 416#32
  ![v67.toNat, 416]
def k0_off29 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v69 : Index := Scalar.indexCast arg6
  let c432 : Index := 432#32
  ![v69.toNat, 432]
def k0_off30 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v71 : Index := Scalar.indexCast arg6
  let c448 : Index := 448#32
  ![v71.toNat, 448]
def k0_off31 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v73 : Index := Scalar.indexCast arg6
  let c464 : Index := 464#32
  ![v73.toNat, 464]
def k0_off32 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v75 : Index := Scalar.indexCast arg6
  let c480 : Index := 480#32
  ![v75.toNat, 480]
def k0_off33 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v77 : Index := Scalar.indexCast arg6
  let c496 : Index := 496#32
  ![v77.toNat, 496]
def k0_off34 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v79 : Index := Scalar.indexCast arg6
  let c512 : Index := 512#32
  ![v79.toNat, 512]
def k0_off35 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v81 : Index := Scalar.indexCast arg6
  let c528 : Index := 528#32
  ![v81.toNat, 528]
def k0_off36 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v83 : Index := Scalar.indexCast arg6
  let c544 : Index := 544#32
  ![v83.toNat, 544]
def k0_off37 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v85 : Index := Scalar.indexCast arg6
  let c560 : Index := 560#32
  ![v85.toNat, 560]
def k0_off38 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v87 : Index := Scalar.indexCast arg6
  let c576 : Index := 576#32
  ![v87.toNat, 576]
def k0_off39 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v89 : Index := Scalar.indexCast arg6
  let c592 : Index := 592#32
  ![v89.toNat, 592]
def k0_off40 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v91 : Index := Scalar.indexCast arg6
  let c608 : Index := 608#32
  ![v91.toNat, 608]
def k0_off41 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v93 : Index := Scalar.indexCast arg6
  let c624 : Index := 624#32
  ![v93.toNat, 624]
def k0_off42 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v95 : Index := Scalar.indexCast arg6
  let c640 : Index := 640#32
  ![v95.toNat, 640]
def k0_off43 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v97 : Index := Scalar.indexCast arg6
  let c656 : Index := 656#32
  ![v97.toNat, 656]
def k0_off44 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v99 : Index := Scalar.indexCast arg6
  let c672 : Index := 672#32
  ![v99.toNat, 672]
def k0_off45 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v101 : Index := Scalar.indexCast arg6
  let c688 : Index := 688#32
  ![v101.toNat, 688]
def k0_off46 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v103 : Index := Scalar.indexCast arg6
  let c704 : Index := 704#32
  ![v103.toNat, 704]
def k0_off47 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v105 : Index := Scalar.indexCast arg6
  let c720 : Index := 720#32
  ![v105.toNat, 720]
def k0_off48 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v107 : Index := Scalar.indexCast arg6
  let c736 : Index := 736#32
  ![v107.toNat, 736]
def k0_off49 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v109 : Index := Scalar.indexCast arg6
  let c752 : Index := 752#32
  ![v109.toNat, 752]
def k0_off50 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v111 : Index := Scalar.indexCast arg6
  let c768 : Index := 768#32
  ![v111.toNat, 768]
def k0_off51 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v113 : Index := Scalar.indexCast arg6
  let c784 : Index := 784#32
  ![v113.toNat, 784]
def k0_off52 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v115 : Index := Scalar.indexCast arg6
  let c800 : Index := 800#32
  ![v115.toNat, 800]
def k0_off53 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v117 : Index := Scalar.indexCast arg6
  let c816 : Index := 816#32
  ![v117.toNat, 816]
def k0_off54 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v119 : Index := Scalar.indexCast arg6
  let c832 : Index := 832#32
  ![v119.toNat, 832]
def k0_off55 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v121 : Index := Scalar.indexCast arg6
  let c848 : Index := 848#32
  ![v121.toNat, 848]
def k0_off56 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v123 : Index := Scalar.indexCast arg6
  let c864 : Index := 864#32
  ![v123.toNat, 864]
def k0_off57 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v125 : Index := Scalar.indexCast arg6
  let c880 : Index := 880#32
  ![v125.toNat, 880]
def k0_off58 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v127 : Index := Scalar.indexCast arg6
  let c896 : Index := 896#32
  ![v127.toNat, 896]
def k0_off59 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v129 : Index := Scalar.indexCast arg6
  let c912 : Index := 912#32
  ![v129.toNat, 912]
def k0_off60 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v131 : Index := Scalar.indexCast arg6
  let c928 : Index := 928#32
  ![v131.toNat, 928]
def k0_off61 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v133 : Index := Scalar.indexCast arg6
  let c944 : Index := 944#32
  ![v133.toNat, 944]
def k0_off62 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v135 : Index := Scalar.indexCast arg6
  let c960 : Index := 960#32
  ![v135.toNat, 960]
def k0_off63 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v137 : Index := Scalar.indexCast arg6
  let c976 : Index := 976#32
  ![v137.toNat, 976]
def k0_off64 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v139 : Index := Scalar.indexCast arg6
  let c992 : Index := 992#32
  ![v139.toNat, 992]
def k0_off65 (k0_t1 : Fin k0_t1_loop.trips) : Fin 2 → Nat :=
  let c0_i32_2 : BitVec 32 := 0#32
  let c1_i32 : BitVec 32 := 1#32
  let arg6 : BitVec 32 := Scf.iv c0_i32_2 c1_i32 k0_t1
  let v141 : Index := Scalar.indexCast arg6
  let c1008 : Index := 1008#32
  ![v141.toNat, 1008]
@[reducible] def k0_t2_loop : Scf.Loop 32 :=
  let c0_i32_5 : BitVec 32 := 0#32
  let c64_i32_6 : BitVec 32 := 64#32
  let v10 : BitVec 32 := Scalar.addi c0_i32_5 c64_i32_6
  let c1_i32_7 : BitVec 32 := 1#32
  ⟨c0_i32_5, v10, c1_i32_7⟩
def k0_off66 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v16 : Index := Scalar.indexCast arg6
  let c0 : Index := 0#32
  ![v16.toNat, 0]

def k0_chk1 (v15 : IVec S16 32) (v17 : IVec S16 32) : Prop :=
  (∀ a x, ((![v15, v17] : Fin 2 → IVec S16 32) a x).toNat < S64x1024.size a)
theorem k0_idx1_inb : ∀ (v15 : IVec S16 32) (v17 : IVec S16 32) (k0_hw1 : k0_chk1 v15 v17), ∀ a x, ((![v15, v17] : Fin 2 → IVec S16 32) a x).toNat < S64x1024.size a := fun v15 v17 k0_hw1 => k0_hw1
def k0_off67 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v18 : Index := Scalar.indexCast arg6
  let c16 : Index := 16#32
  ![v18.toNat, 16]

def k0_chk2 (v15 : IVec S16 32) (v19 : IVec S16 32) : Prop :=
  (∀ a x, ((![v15, v19] : Fin 2 → IVec S16 32) a x).toNat < S64x1024.size a)
theorem k0_idx2_inb : ∀ (v15 : IVec S16 32) (v19 : IVec S16 32) (k0_hw2 : k0_chk2 v15 v19), ∀ a x, ((![v15, v19] : Fin 2 → IVec S16 32) a x).toNat < S64x1024.size a := fun v15 v19 k0_hw2 => k0_hw2
def k0_off68 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v20 : Index := Scalar.indexCast arg6
  let c32 : Index := 32#32
  ![v20.toNat, 32]

def k0_chk3 (v15 : IVec S16 32) (v21 : IVec S16 32) : Prop :=
  (∀ a x, ((![v15, v21] : Fin 2 → IVec S16 32) a x).toNat < S64x1024.size a)
theorem k0_idx3_inb : ∀ (v15 : IVec S16 32) (v21 : IVec S16 32) (k0_hw3 : k0_chk3 v15 v21), ∀ a x, ((![v15, v21] : Fin 2 → IVec S16 32) a x).toNat < S64x1024.size a := fun v15 v21 k0_hw3 => k0_hw3
def k0_off69 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v22 : Index := Scalar.indexCast arg6
  let c48 : Index := 48#32
  ![v22.toNat, 48]

def k0_chk4 (v15 : IVec S16 32) (v23 : IVec S16 32) : Prop :=
  (∀ a x, ((![v15, v23] : Fin 2 → IVec S16 32) a x).toNat < S64x1024.size a)
theorem k0_idx4_inb : ∀ (v15 : IVec S16 32) (v23 : IVec S16 32) (k0_hw4 : k0_chk4 v15 v23), ∀ a x, ((![v15, v23] : Fin 2 → IVec S16 32) a x).toNat < S64x1024.size a := fun v15 v23 k0_hw4 => k0_hw4
def k0_off70 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v24 : Index := Scalar.indexCast arg6
  let c64 : Index := 64#32
  ![v24.toNat, 64]

def k0_chk5 (v15 : IVec S16 32) (v25 : IVec S16 32) : Prop :=
  (∀ a x, ((![v15, v25] : Fin 2 → IVec S16 32) a x).toNat < S64x1024.size a)
theorem k0_idx5_inb : ∀ (v15 : IVec S16 32) (v25 : IVec S16 32) (k0_hw5 : k0_chk5 v15 v25), ∀ a x, ((![v15, v25] : Fin 2 → IVec S16 32) a x).toNat < S64x1024.size a := fun v15 v25 k0_hw5 => k0_hw5
def k0_off71 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v26 : Index := Scalar.indexCast arg6
  let c80 : Index := 80#32
  ![v26.toNat, 80]

def k0_chk6 (v15 : IVec S16 32) (v27 : IVec S16 32) : Prop :=
  (∀ a x, ((![v15, v27] : Fin 2 → IVec S16 32) a x).toNat < S64x1024.size a)
theorem k0_idx6_inb : ∀ (v15 : IVec S16 32) (v27 : IVec S16 32) (k0_hw6 : k0_chk6 v15 v27), ∀ a x, ((![v15, v27] : Fin 2 → IVec S16 32) a x).toNat < S64x1024.size a := fun v15 v27 k0_hw6 => k0_hw6
def k0_off72 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v28 : Index := Scalar.indexCast arg6
  let c96 : Index := 96#32
  ![v28.toNat, 96]

def k0_chk7 (v15 : IVec S16 32) (v29 : IVec S16 32) : Prop :=
  (∀ a x, ((![v15, v29] : Fin 2 → IVec S16 32) a x).toNat < S64x1024.size a)
theorem k0_idx7_inb : ∀ (v15 : IVec S16 32) (v29 : IVec S16 32) (k0_hw7 : k0_chk7 v15 v29), ∀ a x, ((![v15, v29] : Fin 2 → IVec S16 32) a x).toNat < S64x1024.size a := fun v15 v29 k0_hw7 => k0_hw7
def k0_off73 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v30 : Index := Scalar.indexCast arg6
  let c112 : Index := 112#32
  ![v30.toNat, 112]

def k0_chk8 (v15 : IVec S16 32) (v31 : IVec S16 32) : Prop :=
  (∀ a x, ((![v15, v31] : Fin 2 → IVec S16 32) a x).toNat < S64x1024.size a)
theorem k0_idx8_inb : ∀ (v15 : IVec S16 32) (v31 : IVec S16 32) (k0_hw8 : k0_chk8 v15 v31), ∀ a x, ((![v15, v31] : Fin 2 → IVec S16 32) a x).toNat < S64x1024.size a := fun v15 v31 k0_hw8 => k0_hw8
def k0_off74 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v32 : Index := Scalar.indexCast arg6
  let c128 : Index := 128#32
  ![v32.toNat, 128]

def k0_chk9 (v15 : IVec S16 32) (v33 : IVec S16 32) : Prop :=
  (∀ a x, ((![v15, v33] : Fin 2 → IVec S16 32) a x).toNat < S64x1024.size a)
theorem k0_idx9_inb : ∀ (v15 : IVec S16 32) (v33 : IVec S16 32) (k0_hw9 : k0_chk9 v15 v33), ∀ a x, ((![v15, v33] : Fin 2 → IVec S16 32) a x).toNat < S64x1024.size a := fun v15 v33 k0_hw9 => k0_hw9
def k0_off75 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v34 : Index := Scalar.indexCast arg6
  let c144 : Index := 144#32
  ![v34.toNat, 144]

def k0_chk10 (v15 : IVec S16 32) (v35 : IVec S16 32) : Prop :=
  (∀ a x, ((![v15, v35] : Fin 2 → IVec S16 32) a x).toNat < S64x1024.size a)
theorem k0_idx10_inb : ∀ (v15 : IVec S16 32) (v35 : IVec S16 32) (k0_hw10 : k0_chk10 v15 v35), ∀ a x, ((![v15, v35] : Fin 2 → IVec S16 32) a x).toNat < S64x1024.size a := fun v15 v35 k0_hw10 => k0_hw10
def k0_off76 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v36 : Index := Scalar.indexCast arg6
  let c160 : Index := 160#32
  ![v36.toNat, 160]

def k0_chk11 (v15 : IVec S16 32) (v37 : IVec S16 32) : Prop :=
  (∀ a x, ((![v15, v37] : Fin 2 → IVec S16 32) a x).toNat < S64x1024.size a)
theorem k0_idx11_inb : ∀ (v15 : IVec S16 32) (v37 : IVec S16 32) (k0_hw11 : k0_chk11 v15 v37), ∀ a x, ((![v15, v37] : Fin 2 → IVec S16 32) a x).toNat < S64x1024.size a := fun v15 v37 k0_hw11 => k0_hw11
def k0_off77 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v38 : Index := Scalar.indexCast arg6
  let c176 : Index := 176#32
  ![v38.toNat, 176]

def k0_chk12 (v15 : IVec S16 32) (v39 : IVec S16 32) : Prop :=
  (∀ a x, ((![v15, v39] : Fin 2 → IVec S16 32) a x).toNat < S64x1024.size a)
theorem k0_idx12_inb : ∀ (v15 : IVec S16 32) (v39 : IVec S16 32) (k0_hw12 : k0_chk12 v15 v39), ∀ a x, ((![v15, v39] : Fin 2 → IVec S16 32) a x).toNat < S64x1024.size a := fun v15 v39 k0_hw12 => k0_hw12
def k0_off78 (k0_t2 : Fin k0_t2_loop.trips) : Fin 2 → Nat :=
  let c0_i32_5 : BitVec 32 := 0#32
  let c1_i32_7 : BitVec 32 := 1#32
  let arg6 : BitVec 32 := Scf.iv c0_i32_5 c1_i32_7 k0_t2
  let v40 : Index := Scalar.indexCast arg6
  let c184 : Index := 184#32
  ![v40.toNat, 184]

def k0_chk13 (v15 : IVec S16 32) (v41 : IVec S16 32) : Prop :=
  (∀ a x, ((![v15, v41] : Fin 2 → IVec S16 32) a x).toNat < S64x1024.size a)
theorem k0_idx13_inb : ∀ (v15 : IVec S16 32) (v41 : IVec S16 32) (k0_hw13 : k0_chk13 v15 v41), ∀ a x, ((![v15, v41] : Fin 2 → IVec S16 32) a x).toNat < S64x1024.size a := fun v15 v41 k0_hw13 => k0_hw13
def k0_off79 (i : grid0.Coords) (c0_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v7 : BitVec 32 := Scalar.muli v1 c128_i32
  let v8 : BitVec 32 := Scalar.addi v7 c0_i32
  let c0_i32_21_r1 : BitVec 32 := 0#32
  ![v8.toNat, 0]
@[reducible] def k0_t3_loop : Scf.Loop 32 :=
  let c0_i32_12 : BitVec 32 := 0#32
  let c64_i32_13 : BitVec 32 := 64#32
  let v13 : BitVec 32 := Scalar.addi c0_i32_12 c64_i32_13
  let c1_i32_14 : BitVec 32 := 1#32
  ⟨c0_i32_12, v13, c1_i32_14⟩
def k0_off80 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v15 : Index := Scalar.indexCast arg6
  let c0 : Index := 0#32
  ![v15.toNat, 0]
def k0_off81 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v17 : Index := Scalar.indexCast arg6
  let c16 : Index := 16#32
  ![v17.toNat, 16]
def k0_off82 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v19 : Index := Scalar.indexCast arg6
  let c32 : Index := 32#32
  ![v19.toNat, 32]
def k0_off83 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v21 : Index := Scalar.indexCast arg6
  let c48 : Index := 48#32
  ![v21.toNat, 48]
def k0_off84 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v23 : Index := Scalar.indexCast arg6
  let c64 : Index := 64#32
  ![v23.toNat, 64]
def k0_off85 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v25 : Index := Scalar.indexCast arg6
  let c80 : Index := 80#32
  ![v25.toNat, 80]
def k0_off86 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v27 : Index := Scalar.indexCast arg6
  let c96 : Index := 96#32
  ![v27.toNat, 96]
def k0_off87 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v29 : Index := Scalar.indexCast arg6
  let c112 : Index := 112#32
  ![v29.toNat, 112]
def k0_off88 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v31 : Index := Scalar.indexCast arg6
  let c128 : Index := 128#32
  ![v31.toNat, 128]
def k0_off89 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v33 : Index := Scalar.indexCast arg6
  let c144 : Index := 144#32
  ![v33.toNat, 144]
def k0_off90 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v35 : Index := Scalar.indexCast arg6
  let c160 : Index := 160#32
  ![v35.toNat, 160]
def k0_off91 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v37 : Index := Scalar.indexCast arg6
  let c176 : Index := 176#32
  ![v37.toNat, 176]
def k0_off92 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v39 : Index := Scalar.indexCast arg6
  let c192 : Index := 192#32
  ![v39.toNat, 192]
def k0_off93 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v41 : Index := Scalar.indexCast arg6
  let c208 : Index := 208#32
  ![v41.toNat, 208]
def k0_off94 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v43 : Index := Scalar.indexCast arg6
  let c224 : Index := 224#32
  ![v43.toNat, 224]
def k0_off95 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v45 : Index := Scalar.indexCast arg6
  let c240 : Index := 240#32
  ![v45.toNat, 240]
def k0_off96 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v47 : Index := Scalar.indexCast arg6
  let c256 : Index := 256#32
  ![v47.toNat, 256]
def k0_off97 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v49 : Index := Scalar.indexCast arg6
  let c272 : Index := 272#32
  ![v49.toNat, 272]
def k0_off98 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v51 : Index := Scalar.indexCast arg6
  let c288 : Index := 288#32
  ![v51.toNat, 288]
def k0_off99 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v53 : Index := Scalar.indexCast arg6
  let c304 : Index := 304#32
  ![v53.toNat, 304]
def k0_off100 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v55 : Index := Scalar.indexCast arg6
  let c320 : Index := 320#32
  ![v55.toNat, 320]
def k0_off101 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v57 : Index := Scalar.indexCast arg6
  let c336 : Index := 336#32
  ![v57.toNat, 336]
def k0_off102 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v59 : Index := Scalar.indexCast arg6
  let c352 : Index := 352#32
  ![v59.toNat, 352]
def k0_off103 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v61 : Index := Scalar.indexCast arg6
  let c368 : Index := 368#32
  ![v61.toNat, 368]
def k0_off104 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v63 : Index := Scalar.indexCast arg6
  let c384 : Index := 384#32
  ![v63.toNat, 384]
def k0_off105 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v65 : Index := Scalar.indexCast arg6
  let c400 : Index := 400#32
  ![v65.toNat, 400]
def k0_off106 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v67 : Index := Scalar.indexCast arg6
  let c416 : Index := 416#32
  ![v67.toNat, 416]
def k0_off107 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v69 : Index := Scalar.indexCast arg6
  let c432 : Index := 432#32
  ![v69.toNat, 432]
def k0_off108 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v71 : Index := Scalar.indexCast arg6
  let c448 : Index := 448#32
  ![v71.toNat, 448]
def k0_off109 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v73 : Index := Scalar.indexCast arg6
  let c464 : Index := 464#32
  ![v73.toNat, 464]
def k0_off110 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v75 : Index := Scalar.indexCast arg6
  let c480 : Index := 480#32
  ![v75.toNat, 480]
def k0_off111 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v77 : Index := Scalar.indexCast arg6
  let c496 : Index := 496#32
  ![v77.toNat, 496]
def k0_off112 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v79 : Index := Scalar.indexCast arg6
  let c512 : Index := 512#32
  ![v79.toNat, 512]
def k0_off113 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v81 : Index := Scalar.indexCast arg6
  let c528 : Index := 528#32
  ![v81.toNat, 528]
def k0_off114 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v83 : Index := Scalar.indexCast arg6
  let c544 : Index := 544#32
  ![v83.toNat, 544]
def k0_off115 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v85 : Index := Scalar.indexCast arg6
  let c560 : Index := 560#32
  ![v85.toNat, 560]
def k0_off116 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v87 : Index := Scalar.indexCast arg6
  let c576 : Index := 576#32
  ![v87.toNat, 576]
def k0_off117 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v89 : Index := Scalar.indexCast arg6
  let c592 : Index := 592#32
  ![v89.toNat, 592]
def k0_off118 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v91 : Index := Scalar.indexCast arg6
  let c608 : Index := 608#32
  ![v91.toNat, 608]
def k0_off119 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v93 : Index := Scalar.indexCast arg6
  let c624 : Index := 624#32
  ![v93.toNat, 624]
def k0_off120 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v95 : Index := Scalar.indexCast arg6
  let c640 : Index := 640#32
  ![v95.toNat, 640]
def k0_off121 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v97 : Index := Scalar.indexCast arg6
  let c656 : Index := 656#32
  ![v97.toNat, 656]
def k0_off122 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v99 : Index := Scalar.indexCast arg6
  let c672 : Index := 672#32
  ![v99.toNat, 672]
def k0_off123 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v101 : Index := Scalar.indexCast arg6
  let c688 : Index := 688#32
  ![v101.toNat, 688]
def k0_off124 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v103 : Index := Scalar.indexCast arg6
  let c704 : Index := 704#32
  ![v103.toNat, 704]
def k0_off125 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v105 : Index := Scalar.indexCast arg6
  let c720 : Index := 720#32
  ![v105.toNat, 720]
def k0_off126 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v107 : Index := Scalar.indexCast arg6
  let c736 : Index := 736#32
  ![v107.toNat, 736]
def k0_off127 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v109 : Index := Scalar.indexCast arg6
  let c752 : Index := 752#32
  ![v109.toNat, 752]
def k0_off128 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v111 : Index := Scalar.indexCast arg6
  let c768 : Index := 768#32
  ![v111.toNat, 768]
def k0_off129 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v113 : Index := Scalar.indexCast arg6
  let c784 : Index := 784#32
  ![v113.toNat, 784]
def k0_off130 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v115 : Index := Scalar.indexCast arg6
  let c800 : Index := 800#32
  ![v115.toNat, 800]
def k0_off131 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v117 : Index := Scalar.indexCast arg6
  let c816 : Index := 816#32
  ![v117.toNat, 816]
def k0_off132 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v119 : Index := Scalar.indexCast arg6
  let c832 : Index := 832#32
  ![v119.toNat, 832]
def k0_off133 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v121 : Index := Scalar.indexCast arg6
  let c848 : Index := 848#32
  ![v121.toNat, 848]
def k0_off134 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v123 : Index := Scalar.indexCast arg6
  let c864 : Index := 864#32
  ![v123.toNat, 864]
def k0_off135 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v125 : Index := Scalar.indexCast arg6
  let c880 : Index := 880#32
  ![v125.toNat, 880]
def k0_off136 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v127 : Index := Scalar.indexCast arg6
  let c896 : Index := 896#32
  ![v127.toNat, 896]
def k0_off137 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v129 : Index := Scalar.indexCast arg6
  let c912 : Index := 912#32
  ![v129.toNat, 912]
def k0_off138 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v131 : Index := Scalar.indexCast arg6
  let c928 : Index := 928#32
  ![v131.toNat, 928]
def k0_off139 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v133 : Index := Scalar.indexCast arg6
  let c944 : Index := 944#32
  ![v133.toNat, 944]
def k0_off140 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v135 : Index := Scalar.indexCast arg6
  let c960 : Index := 960#32
  ![v135.toNat, 960]
def k0_off141 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v137 : Index := Scalar.indexCast arg6
  let c976 : Index := 976#32
  ![v137.toNat, 976]
def k0_off142 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v139 : Index := Scalar.indexCast arg6
  let c992 : Index := 992#32
  ![v139.toNat, 992]
def k0_off143 (k0_t3 : Fin k0_t3_loop.trips) : Fin 2 → Nat :=
  let c0_i32_12 : BitVec 32 := 0#32
  let c1_i32_14 : BitVec 32 := 1#32
  let arg6 : BitVec 32 := Scf.iv c0_i32_12 c1_i32_14 k0_t3
  let v141 : Index := Scalar.indexCast arg6
  let c1008 : Index := 1008#32
  ![v141.toNat, 1008]
@[reducible] def k0_t4_loop : Scf.Loop 32 :=
  let c0_i32_17 : BitVec 32 := 0#32
  let c64_i32_18 : BitVec 32 := 64#32
  let v14 : BitVec 32 := Scalar.addi c0_i32_17 c64_i32_18
  let c1_i32_19 : BitVec 32 := 1#32
  ⟨c0_i32_17, v14, c1_i32_19⟩
def k0_off144 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v16 : Index := Scalar.indexCast arg6
  let c0 : Index := 0#32
  ![v16.toNat, 0]

def k0_chk14 (v15 : IVec S16 32) (v17 : IVec S16 32) : Prop :=
  (∀ a x, ((![v15, v17] : Fin 2 → IVec S16 32) a x).toNat < S64x1024.size a)
theorem k0_idx14_inb : ∀ (v15 : IVec S16 32) (v17 : IVec S16 32) (k0_hw14 : k0_chk14 v15 v17), ∀ a x, ((![v15, v17] : Fin 2 → IVec S16 32) a x).toNat < S64x1024.size a := fun v15 v17 k0_hw14 => k0_hw14
def k0_off145 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v18 : Index := Scalar.indexCast arg6
  let c16 : Index := 16#32
  ![v18.toNat, 16]

def k0_chk15 (v15 : IVec S16 32) (v19 : IVec S16 32) : Prop :=
  (∀ a x, ((![v15, v19] : Fin 2 → IVec S16 32) a x).toNat < S64x1024.size a)
theorem k0_idx15_inb : ∀ (v15 : IVec S16 32) (v19 : IVec S16 32) (k0_hw15 : k0_chk15 v15 v19), ∀ a x, ((![v15, v19] : Fin 2 → IVec S16 32) a x).toNat < S64x1024.size a := fun v15 v19 k0_hw15 => k0_hw15
def k0_off146 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v20 : Index := Scalar.indexCast arg6
  let c32 : Index := 32#32
  ![v20.toNat, 32]

def k0_chk16 (v15 : IVec S16 32) (v21 : IVec S16 32) : Prop :=
  (∀ a x, ((![v15, v21] : Fin 2 → IVec S16 32) a x).toNat < S64x1024.size a)
theorem k0_idx16_inb : ∀ (v15 : IVec S16 32) (v21 : IVec S16 32) (k0_hw16 : k0_chk16 v15 v21), ∀ a x, ((![v15, v21] : Fin 2 → IVec S16 32) a x).toNat < S64x1024.size a := fun v15 v21 k0_hw16 => k0_hw16
def k0_off147 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v22 : Index := Scalar.indexCast arg6
  let c48 : Index := 48#32
  ![v22.toNat, 48]

def k0_chk17 (v15 : IVec S16 32) (v23 : IVec S16 32) : Prop :=
  (∀ a x, ((![v15, v23] : Fin 2 → IVec S16 32) a x).toNat < S64x1024.size a)
theorem k0_idx17_inb : ∀ (v15 : IVec S16 32) (v23 : IVec S16 32) (k0_hw17 : k0_chk17 v15 v23), ∀ a x, ((![v15, v23] : Fin 2 → IVec S16 32) a x).toNat < S64x1024.size a := fun v15 v23 k0_hw17 => k0_hw17
def k0_off148 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v24 : Index := Scalar.indexCast arg6
  let c64 : Index := 64#32
  ![v24.toNat, 64]

def k0_chk18 (v15 : IVec S16 32) (v25 : IVec S16 32) : Prop :=
  (∀ a x, ((![v15, v25] : Fin 2 → IVec S16 32) a x).toNat < S64x1024.size a)
theorem k0_idx18_inb : ∀ (v15 : IVec S16 32) (v25 : IVec S16 32) (k0_hw18 : k0_chk18 v15 v25), ∀ a x, ((![v15, v25] : Fin 2 → IVec S16 32) a x).toNat < S64x1024.size a := fun v15 v25 k0_hw18 => k0_hw18
def k0_off149 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v26 : Index := Scalar.indexCast arg6
  let c80 : Index := 80#32
  ![v26.toNat, 80]

def k0_chk19 (v15 : IVec S16 32) (v27 : IVec S16 32) : Prop :=
  (∀ a x, ((![v15, v27] : Fin 2 → IVec S16 32) a x).toNat < S64x1024.size a)
theorem k0_idx19_inb : ∀ (v15 : IVec S16 32) (v27 : IVec S16 32) (k0_hw19 : k0_chk19 v15 v27), ∀ a x, ((![v15, v27] : Fin 2 → IVec S16 32) a x).toNat < S64x1024.size a := fun v15 v27 k0_hw19 => k0_hw19
def k0_off150 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v28 : Index := Scalar.indexCast arg6
  let c96 : Index := 96#32
  ![v28.toNat, 96]

def k0_chk20 (v15 : IVec S16 32) (v29 : IVec S16 32) : Prop :=
  (∀ a x, ((![v15, v29] : Fin 2 → IVec S16 32) a x).toNat < S64x1024.size a)
theorem k0_idx20_inb : ∀ (v15 : IVec S16 32) (v29 : IVec S16 32) (k0_hw20 : k0_chk20 v15 v29), ∀ a x, ((![v15, v29] : Fin 2 → IVec S16 32) a x).toNat < S64x1024.size a := fun v15 v29 k0_hw20 => k0_hw20
def k0_off151 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v30 : Index := Scalar.indexCast arg6
  let c112 : Index := 112#32
  ![v30.toNat, 112]

def k0_chk21 (v15 : IVec S16 32) (v31 : IVec S16 32) : Prop :=
  (∀ a x, ((![v15, v31] : Fin 2 → IVec S16 32) a x).toNat < S64x1024.size a)
theorem k0_idx21_inb : ∀ (v15 : IVec S16 32) (v31 : IVec S16 32) (k0_hw21 : k0_chk21 v15 v31), ∀ a x, ((![v15, v31] : Fin 2 → IVec S16 32) a x).toNat < S64x1024.size a := fun v15 v31 k0_hw21 => k0_hw21
def k0_off152 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v32 : Index := Scalar.indexCast arg6
  let c128 : Index := 128#32
  ![v32.toNat, 128]

def k0_chk22 (v15 : IVec S16 32) (v33 : IVec S16 32) : Prop :=
  (∀ a x, ((![v15, v33] : Fin 2 → IVec S16 32) a x).toNat < S64x1024.size a)
theorem k0_idx22_inb : ∀ (v15 : IVec S16 32) (v33 : IVec S16 32) (k0_hw22 : k0_chk22 v15 v33), ∀ a x, ((![v15, v33] : Fin 2 → IVec S16 32) a x).toNat < S64x1024.size a := fun v15 v33 k0_hw22 => k0_hw22
def k0_off153 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v34 : Index := Scalar.indexCast arg6
  let c144 : Index := 144#32
  ![v34.toNat, 144]

def k0_chk23 (v15 : IVec S16 32) (v35 : IVec S16 32) : Prop :=
  (∀ a x, ((![v15, v35] : Fin 2 → IVec S16 32) a x).toNat < S64x1024.size a)
theorem k0_idx23_inb : ∀ (v15 : IVec S16 32) (v35 : IVec S16 32) (k0_hw23 : k0_chk23 v15 v35), ∀ a x, ((![v15, v35] : Fin 2 → IVec S16 32) a x).toNat < S64x1024.size a := fun v15 v35 k0_hw23 => k0_hw23
def k0_off154 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v36 : Index := Scalar.indexCast arg6
  let c160 : Index := 160#32
  ![v36.toNat, 160]

def k0_chk24 (v15 : IVec S16 32) (v37 : IVec S16 32) : Prop :=
  (∀ a x, ((![v15, v37] : Fin 2 → IVec S16 32) a x).toNat < S64x1024.size a)
theorem k0_idx24_inb : ∀ (v15 : IVec S16 32) (v37 : IVec S16 32) (k0_hw24 : k0_chk24 v15 v37), ∀ a x, ((![v15, v37] : Fin 2 → IVec S16 32) a x).toNat < S64x1024.size a := fun v15 v37 k0_hw24 => k0_hw24
def k0_off155 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v38 : Index := Scalar.indexCast arg6
  let c176 : Index := 176#32
  ![v38.toNat, 176]

def k0_chk25 (v15 : IVec S16 32) (v39 : IVec S16 32) : Prop :=
  (∀ a x, ((![v15, v39] : Fin 2 → IVec S16 32) a x).toNat < S64x1024.size a)
theorem k0_idx25_inb : ∀ (v15 : IVec S16 32) (v39 : IVec S16 32) (k0_hw25 : k0_chk25 v15 v39), ∀ a x, ((![v15, v39] : Fin 2 → IVec S16 32) a x).toNat < S64x1024.size a := fun v15 v39 k0_hw25 => k0_hw25
def k0_off156 (k0_t4 : Fin k0_t4_loop.trips) : Fin 2 → Nat :=
  let c0_i32_17 : BitVec 32 := 0#32
  let c1_i32_19 : BitVec 32 := 1#32
  let arg6 : BitVec 32 := Scf.iv c0_i32_17 c1_i32_19 k0_t4
  let v40 : Index := Scalar.indexCast arg6
  let c184 : Index := 184#32
  ![v40.toNat, 184]

def k0_chk26 (v15 : IVec S16 32) (v41 : IVec S16 32) : Prop :=
  (∀ a x, ((![v15, v41] : Fin 2 → IVec S16 32) a x).toNat < S64x1024.size a)
theorem k0_idx26_inb : ∀ (v15 : IVec S16 32) (v41 : IVec S16 32) (k0_hw26 : k0_chk26 v15 v41), ∀ a x, ((![v15, v41] : Fin 2 → IVec S16 32) a x).toNat < S64x1024.size a := fun v15 v41 k0_hw26 => k0_hw26
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000x512 : Shape := ⟨2, ![1000, 512]⟩
abbrev S512x512 : Shape := ⟨2, ![512, 512]⟩
abbrev S512 : Shape := ⟨1, ![512]⟩
abbrev S512x1000 : Shape := ⟨2, ![512, 1000]⟩
abbrev S1000 : Shape := ⟨1, ![1000]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x512 : Shape := ⟨3, ![4096, 200, 512]⟩
abbrev S4096 : Shape := ⟨1, ![4096]⟩
abbrev S4096x1 : Shape := ⟨2, ![4096, 1]⟩
abbrev S4096x512 : Shape := ⟨2, ![4096, 512]⟩
abbrev S1x512 : Shape := ⟨2, ![1, 512]⟩
abbrev S4096x1000 : Shape := ⟨2, ![4096, 1000]⟩
abbrev S1x1000 : Shape := ⟨2, ![1, 1000]⟩

abbrev nBuf : Space → Nat
  | .hbm => 56
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000x512, .f32⟩
  | .hbm, ⟨2, _⟩ => ⟨S512x512, .f32⟩
  | .hbm, ⟨3, _⟩ => ⟨S512, .f32⟩
  | .hbm, ⟨4, _⟩ => ⟨S512x1000, .f32⟩
  | .hbm, ⟨5, _⟩ => ⟨S1000, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i1⟩
  | .hbm, ⟨12, _⟩ => ⟨S_, .i32⟩
  | .hbm, ⟨13, _⟩ => ⟨S4096x200, .i32⟩
  | .hbm, ⟨14, _⟩ => ⟨S4096x200, .i32⟩
  | .hbm, ⟨15, _⟩ => ⟨S4096x200, .i32⟩
  | .hbm, ⟨16, _⟩ => ⟨S4096x200x1, .i32⟩
  | .hbm, ⟨17, _⟩ => ⟨S1, .i32⟩
  | .hbm, ⟨18, _⟩ => ⟨S_, .i32⟩
  | .hbm, ⟨19, _⟩ => ⟨S4096x200x1, .i32⟩
  | .hbm, ⟨20, _⟩ => ⟨S4096x200x1, .i1⟩
  | .hbm, ⟨21, _⟩ => ⟨S1x1x1, .i32⟩
  | .hbm, ⟨22, _⟩ => ⟨S4096x200x1, .i32⟩
  | .hbm, ⟨23, _⟩ => ⟨S4096x200x1, .i1⟩
  | .hbm, ⟨24, _⟩ => ⟨S4096x200x1, .i1⟩
  | .hbm, ⟨25, _⟩ => ⟨S_, .i1⟩
  | .hbm, ⟨26, _⟩ => ⟨S4096x200, .i1⟩
  | .hbm, ⟨27, _⟩ => ⟨S4096x200x512, .f32⟩
  | .hbm, ⟨28, _⟩ => ⟨S4096x200x512, .i1⟩
  | .hbm, ⟨29, _⟩ => ⟨S_, .f32⟩
  | .hbm, ⟨30, _⟩ => ⟨S4096x200x512, .f32⟩
  | .hbm, ⟨31, _⟩ => ⟨S4096x200x512, .f32⟩
  | .hbm, ⟨32, _⟩ => ⟨S4096x200x1, .i1⟩
  | .hbm, ⟨33, _⟩ => ⟨S4096x200x1, .f32⟩
  | .hbm, ⟨34, _⟩ => ⟨S4096x200x512, .f32⟩
  | .hbm, ⟨35, _⟩ => ⟨S4096x200x512, .f32⟩
  | .hbm, ⟨36, _⟩ => ⟨S4096x200, .i32⟩
  | .hbm, ⟨37, _⟩ => ⟨S_, .i32⟩
  | .hbm, ⟨38, _⟩ => ⟨S4096, .i32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x1000, .f32⟩
  | .hbm, ⟨53, _⟩ => ⟨S1x1000, .f32⟩
  | .hbm, ⟨54, _⟩ => ⟨S4096x1000, .f32⟩
  | .hbm, ⟨55, _⟩ => ⟨S4096x1000, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_call1_cst : Ref sig .tc := ⟨.hbm, 49, rfl⟩
abbrev main_call1_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩

abbrev nD : Nat := 1
abbrev τ : Topo := Topo.v7x

variable {F : FTy → Type} [FloatOps F]
-- ==== Proof.Hist.lean ====
/-
  The histogram's contents, as a function of the tokens counted so far, and what one indexed add of sixteen lanes
  makes of it. Nothing here mentions a thread or a transfer.
-/
module

public import proofs.«01_k».proof.Proof.Gen.KernelIdeal
public import Idealize.ShloMosaic.Lib.SparseCore.Ops

@[expose] public section

noncomputable section

namespace Cert.Proof.Hist

open Cert.KernelIdeal
open Idealize.ShloMosaic

variable {F : FTy → Type} [FloatOps F]

/-- The word of `0.0` and of `1.0`, as values of the interpretation. -/
abbrev zeroF : F .f32 := Scalar.ofBits .f32 0x00000000#32
abbrev oneF : F .f32 := Scalar.ofBits .f32 0x3F800000#32

/-- The index of a rank-two shape with the two coordinates given. -/
def pair {m n : ℕ} (r : Fin m) (l : Fin n) : (⟨2, ![m, n]⟩ : Shape).Idx :=
  fun | 0 => r | 1 => l | ⟨_ + 2, h⟩ => absurd h (Nat.not_lt.2 (Nat.le_add_left _ _))

theorem pair_eta {m n : ℕ} (j : (⟨2, ![m, n]⟩ : Shape).Idx) : pair (j 0) (j 1) = j := by
  funext a
  match a with
  | 0 => rfl
  | 1 => rfl

/-- `1.0` added `n` times onto `0.0` by the indexed store's addition: the value of a histogram entry hit `n` times. -/
def natF : ℕ → F .f32
  | 0 => zeroF
  | n + 1 => FloatOps.idxAddf (natF n) oneF

/-- How many of the first `n` tokens of row `r` are `v` (`T r l` is token `l` of row `r`). -/
def cnt (T : ℕ → ℕ → ℕ) (r v n : ℕ) : ℕ := ∑ l ∈ Finset.range n, if T r l = v then 1 else 0

theorem cnt_zero (T : ℕ → ℕ → ℕ) (r v : ℕ) : cnt T r v 0 = 0 := rfl
theorem cnt_succ (T : ℕ → ℕ → ℕ) (r v n : ℕ) : cnt T r v (n + 1) = cnt T r v n + if T r n = v then 1 else 0 :=
  Finset.sum_range_succ _ _

/-- How many tokens of row `a` are in once the rows below `r` are done and `l` tokens of row `r` are. -/
def upTo (r l a : ℕ) : ℕ := if a < r then 200 else if a = r then l else 0

/-- The histogram of sixty-four rows once the rows below `r` are done and `l` tokens of row `r` are. -/
def hist (T : ℕ → ℕ → ℕ) (r l : ℕ) : S64x1024.Idx → F .f32 :=
  fun i => natF (cnt T (i 0).val (i 1).val (upTo r l (i 0).val))

theorem upTo_next (r a : ℕ) : upTo r 200 a = upTo (r + 1) 0 a := by
  unfold upTo; split_ifs <;> omega

theorem hist_next (T : ℕ → ℕ → ℕ) (r : ℕ) : hist (F := F) T r 200 = hist T (r + 1) 0 := by
  funext i; unfold hist; rw [upTo_next]

theorem hist_start (T : ℕ → ℕ → ℕ) : hist (F := F) T 0 0 = fun _ => zeroF := by
  funext i; unfold hist upTo; simp [cnt, natF]

theorem hist_end (T : ℕ → ℕ → ℕ) : hist (F := F) T 64 0 = fun i => natF (cnt T (i 0).val (i 1).val 200) := by
  funext i; unfold hist upTo
  rw [if_pos (show (i 0).val < 64 from (i 0).isLt)]

/-- A fact kept by every step of a fold over the lanes in order holds at its end. -/
theorem foldl_lanes {β : Type} : ∀ (n : ℕ) (step : β → Fin n → β) (P : ℕ → β → Prop) (b : β), P 0 b →
    (∀ (k : Fin n) (g : β), P k.val g → P (k.val + 1) (step g k)) → P n ((List.finRange n).foldl step b)
  | 0, _, _, _, h0, _ => by simpa using h0
  | n + 1, step, P, b, h0, hs => by
    rw [List.finRange_succ, List.foldl_cons, List.foldl_map]
    exact foldl_lanes n (fun g k => step g k.succ) (fun k g => P (k + 1) g) (step b 0) (hs 0 b h0)
      (fun k g h => hs k.succ g h)

/-- Sixteen lanes added onto the histogram: lane `k` adds one at token `pos k` of row `r` where its mask bit is set, and
    is passed over where it is not. -/
theorem storeIdx_hist (T : ℕ → ℕ → ℕ) (r : ℕ) (rv ids : IVec S16 32) (v : FVec F S16 .f32) (mask : IVec S16 1) (pos : ℕ → ℕ)
    (h : ∀ a x, ((![rv, ids] : Fin 2 → IVec S16 32) a x).toNat < S64x1024.size a)
    (hr : ∀ x, (rv x).toNat = r) (hv : ∀ x, v x = oneF)
    (hon : ∀ k : Fin 16, mask (Shape.ofLane (d := ![16]) k) = 1 →
      T r (pos k.val) = (ids (Shape.ofLane (d := ![16]) k)).toNat ∧ pos (k.val + 1) = pos k.val + 1)
    (hoff : ∀ k : Fin 16, ¬ mask (Shape.ofLane (d := ![16]) k) = 1 → pos (k.val + 1) = pos k.val) :
    storeIdx (F := F) (s := S64x1024) (e := .f32) (hist T r (pos 0)) ![rv, ids] v mask true h = hist T r (pos 16) := by
  unfold storeIdx
  refine foldl_lanes 16 _ (fun j g => g = hist (F := F) T r (pos j)) _ rfl ?_
  rintro k g rfl
  dsimp only
  by_cases hm : mask (Shape.ofLane (d := ![16]) k) = 1
  · rw [if_pos hm]
    obtain ⟨ht, hp⟩ := hon k hm
    funext j
    have hv' : v (Shape.ofLane (d := ![16]) k) = oneF := hv _
    have e0 : (idxAt (s := S64x1024) ![rv, ids] h (Shape.ofLane (d := ![16]) k) 0).val = r := hr _
    have e1 : (idxAt (s := S64x1024) ![rv, ids] h (Shape.ofLane (d := ![16]) k) 1).val = T r (pos k.val) := ht.symm
    have hu : ∀ l, upTo r l r = l := fun l => by simp [upTo]
    by_cases hj : ∀ a, (j a).val = (idxAt (s := S64x1024) ![rv, ids] h (Shape.ofLane (d := ![16]) k) a).val
    · rw [if_pos hj]
      have j0 : (j 0).val = r := (hj 0).trans e0
      have j1 : (j 1).val = T r (pos k.val) := (hj 1).trans e1
      simp only [if_true, Elt.idxAdd_f32]
      unfold hist
      rw [e0, e1, j0, j1, hu, hu, hp, cnt_succ, if_pos rfl, hv']
      rfl
    · rw [if_neg hj]
      unfold hist
      congr 1
      by_cases j0 : (j 0).val = r
      · have j1 : ¬ T r (pos k.val) = (j 1).val := fun e => hj fun a => by
          match a with
          | 0 => exact j0.trans e0.symm
          | 1 => exact e.symm.trans e1.symm
        rw [j0, hu, hu, hp, cnt_succ, if_neg j1, Nat.add_zero]
      · congr 1; unfold upTo; simp only [j0, if_false]
  · rw [if_neg hm, hoff k hm]

end Cert.Proof.Hist

end
-- ==== Proof.Setup.lean ====
/-
  The names the proof of the whole program shares: the launch configuration, the ghost state, the arrays, the scratch
  buffers of a tile and the points-to facts about them.
-/
module

public import proofs.«01_k».proof.Proof.Hist
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The ghost state: the calls' handshakes, the pipeline's cells, the transfers of the tiles. -/
abbrev UH : Type := URounds (GSem nD τ sig) ℕ
abbrev UP : Type := URounds (GSem nD τ sig) Unit
abbrev UU : Type := (UH × UP) × Counters

local notation "𝕄" => MT nD τ sig (HIx 1) (Elt F) ℕ UU ℕ

def EH : Emb UH (MT nD τ sig (HIx 1) (Elt F) ℕ UU ℕ) :=
  ((Emb.inl : Emb UH (UH × UP)).trans (Emb.inl : Emb (UH × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UH × UP)).trans (Emb.inl : Emb (UH × UP) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The arrays and a tile's scratch -/

abbrev xV : Memref sig .scVector .hbm S4096x200 .i32 := Memref.whole main_arg0_scv
abbrev oV : Memref sig .scVector .hbm S4096x1024 .f32 := Memref.whole main_v0_scv
/-- A tile's scratch: the sixty-four token rows, the sixty-four histogram rows. -/
abbrev sX : Memref sig .scVector .vmem S64x200 .i32 := Memref.whole cc0_scratch0
abbrev sH : Memref sig .scVector .vmem S64x1024 .f32 := Memref.whole cc0_scratch1

abbrev cV (i : grid0.Coords) : Fin τ.nSC := (i 0).castLE hcore0
abbrev jV (i : grid0.Coords) : Fin τ.nSub := (i 1).castLE hsub0
/-- The thread a tile's task runs on. -/
abbrev thr (d : Dev nD) (i : grid0.Coords) : Thread nD τ := V d (cV i) (jV i)

end Cert.Proof.Hist

end
-- ==== Proof.Step.lean ====
/-
  What one group of a tile's operations does: the store of sixteen zeros, and the load of sixteen tokens, their check and
  their indexed add. Each is stated once and applied to every group of the two loops' bodies.
-/
module

public import proofs.«01_k».proof.Proof.Setup
public import Idealize.ShloMosaic.Lib.Pipeline.Value

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

/-- A tile's scratch, held outright at contents. -/
abbrev xPts (X : S64x200.Idx → BitVec 32) : sProp 𝕄 := (thr d i).loc cc0_scratch0 ↦{fullShare} (X : Buf (Elt F) ((thr d i).loc cc0_scratch0))
abbrev hPts (H : S64x1024.Idx → F .f32) : sProp 𝕄 := (thr d i).loc cc0_scratch1 ↦{fullShare} (H : Buf (Elt F) ((thr d i).loc cc0_scratch1))

/-! ## The zeroing -/

/-- The rows below `t` are zero, and row `t`'s columns below `c`. -/
def Zeroed (t c : ℕ) (H : S64x1024.Idx → F .f32) : Prop :=
  ∀ j : S64x1024.Idx, (j 0).val < t ∨ ((j 0).val = t ∧ (j 1).val < c) → H j = zeroF

abbrev zPts (t c : ℕ) : sProp 𝕄 := iprop(∃ H, ⌜Zeroed (F := F) t c H⌝ ∗ hPts d i H)

theorem zeroed_store {t c : ℕ} {off : Fin 2 → ℕ} (hoff : off = ![t, c]) (inb : ∀ a, off a + S1x16.size a ≤ S64x1024.size a)
    (v : FVec F S16 .f32) (hv : ∀ x, v x = zeroF) {H : S64x1024.Idx → F .f32} (hH : Zeroed t c H) :
    Zeroed t (c + 16) ((sH.access (Rect.unit (s := S64x1024) off S1x16.size inb)).write (Elt F) (H : Buf (Elt F) ((thr d i).loc cc0_scratch1))
      (shapeCast S1x16 v shapeCasts_S16_S1x16) Finset.univ) := by
  subst hoff
  intro j hj
  by_cases hm : j ∈ (sH.access (Rect.unit (s := S64x1024) ![t, c] S1x16.size inb)).set
  · obtain ⟨x, -, rfl⟩ := Finset.mem_map.mp hm
    rw [View.write_emb_of_mem _ _ (Finset.mem_univ _)]
    exact hv _
  · rw [View.write_of_not_mem _ _ _ (by rwa [View.setOn_univ])]
    refine hH j ?_
    rcases hj with h | ⟨h0, h1⟩
    · exact .inl h
    · refine .inr ⟨h0, ?_⟩
      by_contra hc
      refine hm ?_
      rw [View.set_slice]
      refine Finset.mem_map.mpr ⟨j, ?_, rfl⟩
      rw [Rect.mem_set_unit]
      intro a
      match a with
      | 0 => exact ⟨h0.ge, show (j 0).val < t + 1 by omega⟩
      | 1 => exact ⟨not_lt.mp hc, show (j 1).val < c + 16 from h1⟩

/-- A load of sixteen histogram entries nothing reads and the store of sixteen zeros over them. -/
theorem wp_zero {t c : ℕ} {off : Fin 2 → ℕ} [ho : ClosedOff off] (hoff : ho.form = ![t, c]) {inb : ∀ a, off a + S1x16.size a ≤ S64x1024.size a}
    {v : FVec F S16 .f32} (hv : ∀ x, v x = zeroF) {hl} {hx} {hm}
    {α : Type} {k : PUnit → Prog (TpuEff nD τ sig (Elt F) Λ₀ (thr d i).2) α} {Q : α → sProp 𝕄} :
    zPts d i t c
      ⊢ iprop((zPts d i t (c + 16) -∗ wp frame (wpE (defs₀ (F := F)) 𝒱₀ (thr d i) none) Set.univ (k ⟨⟩) Q)
        -∗ wp frame (wpE (defs₀ (F := F)) 𝒱₀ (thr d i) none) Set.univ
            (.op (.load sH (Rect.unit (s := S64x1024) off S1x16.size inb).toLoadRect hl) fun _ =>
              .op (.store sH (Rect.unit (s := S64x1024) off S1x16.size inb) (shapeCast S1x16 v shapeCasts_S16_S1x16) Finset.univ hx hm) k) Q) := by
  iintro ⟨%H, %hH, HP⟩ Hk
  iapply (wp_load 𝒱₀ (thr d i) none Set.univ (m := sH) (S := Finset.univ) (Finset.subset_univ _)) $$ HP
  iintro HP
  iapply (wp_store 𝒱₀ (thr d i) none Set.univ (m := sH) (r := Rect.unit (s := S64x1024) off S1x16.size inb) (Mk := Finset.univ)
    (f := (H : Buf (Elt F) ((thr d i).loc cc0_scratch1))) (S := Finset.univ) (Finset.subset_univ _)) $$ HP
  iintro HP
  iapply Hk
  iexists _
  isplitr
  · ipureintro; exact zeroed_store (ho.eq.trans hoff) inb v hv hH
  · iexact HP

/-! ## The indexed adds -/

/-- Token `l` of row `r` of a tile's token scratch, as a number. -/
def tokOf (X : S64x200.Idx → BitVec 32) (r l : ℕ) : ℕ :=
  if h : r < 64 ∧ l < 200 then (X (pair ⟨r, h.1⟩ ⟨l, h.2⟩)).toNat else 0

theorem tokOf_lt {X : S64x200.Idx → BitVec 32} (hX : ∀ j, (X j).toNat < 1024) (r l : ℕ) : tokOf X r l < 1024 := by
  unfold tokOf
  split
  · exact hX _
  · decide

/-- Sixteen tokens as they are loaded: lane `k` is token `c + k` of row `t`. -/
theorem lane_tok {t c : ℕ} {off : Fin 2 → ℕ} (hoff : off = ![t, c]) (inb : ∀ a, off a + S1x16.size a ≤ S64x200.size a)
    (X : S64x200.Idx → BitVec 32) (k : Fin 16) :
    (shapeCast S16 (sX.view.readAt (Elt F) (Rect.unit (s := S64x200) off S1x16.size inb).toLoadRect (X : Buf (Elt F) ((thr d i).loc cc0_scratch0)))
      shapeCasts_S1x16_S16 (Shape.ofLane (d := ![16]) k)).toNat = tokOf X t (c + k.val) := by
  subst hoff
  have h0 : t < 64 := by have : t + 1 ≤ 64 := inb 0; omega
  have h1 : c + 16 ≤ 200 := inb 1
  have hk : c + k.val < 200 := by omega
  unfold tokOf
  rw [dif_pos ⟨h0, hk⟩]
  rw [shapeCast_apply (s := S1x16) _ _ (Shape.ofLane (d := ![16]) k) (pair (m := 1) (n := 16) 0 k) (by clear hk; revert k; decide)]
  simp only [View.readAt_apply, Memref.view_whole, View.read_whole]
  congr 2
  funext a
  match a with
  | 0 => apply Fin.ext; rw [LoadRect.idx_apply]; simp [pair]
  | 1 => apply Fin.ext; rw [LoadRect.idx_apply]; simp [pair]

/-- The whole of the histogram scratch, as its own view reads and writes it. -/
theorem emb_hist (j : S64x1024.Idx) : (sH.access (.whole S64x1024)).emb j = j := Rect.emb_whole_apply S64x1024 j
theorem read_hist (H : S64x1024.Idx → F .f32) :
    (sH.access (.whole S64x1024)).read (Elt F) (H : Buf (Elt F) ((thr d i).loc cc0_scratch1)) = H := by
  funext j
  rw [View.read_apply]
  exact congrArg H (emb_hist j)
theorem write_hist (H H' : S64x1024.Idx → F .f32) :
    (sH.access (.whole S64x1024)).write (Elt F) (H : Buf (Elt F) ((thr d i).loc cc0_scratch1)) H' Finset.univ = H' := by
  funext j
  conv_lhs => rw [← emb_hist j, View.write_emb_of_mem _ _ (Finset.mem_univ _)]
  rfl
theorem hPts_access (H : S64x1024.Idx → F .f32) :
    (hPts d i H : sProp 𝕄) = ((sH.access (.whole S64x1024)).loc (thr d i) ↦[(sH.access (.whole S64x1024)).set]{fullShare} (H : Buf (Elt F) ((thr d i).loc cc0_scratch1))) := by
  rw [show (sH.access (.whole S64x1024)).set = Finset.univ from Memref.set_access_whole (cc0_scratch1 : Ref sig .scVector)]

/-- The check of sixteen loaded tokens and their indexed add: `pos` counts the tokens of row `t` in before each lane. -/
theorem wp_add {X : S64x200.Idx → BitVec 32} (hX : ∀ j, (X j).toNat < 1024) {t c : ℕ} {off : Fin 2 → ℕ} [ho : ClosedOff off] (pos : ℕ → ℕ)
    {rv : IVec S16 32} {ones : FVec F S16 .f32} {mask : IVec S16 1}
    (hoff : ho.form = ![t, c]) (hr : ∀ x, (rv x).toNat = t) (hv : ∀ x, ones x = oneF)
    (hon : ∀ k : Fin 16, mask (Shape.ofLane (d := ![16]) k) = 1 → pos k.val = c + k.val ∧ pos (k.val + 1) = pos k.val + 1)
    (hoffm : ∀ k : Fin 16, ¬ mask (Shape.ofLane (d := ![16]) k) = 1 → pos (k.val + 1) = pos k.val)
    {inb : ∀ a, off a + S1x16.size a ≤ S64x200.size a} {ids : IVec S16 32}
    (hids : ids = shapeCast S16 (sX.view.readAt (Elt F) (Rect.unit (s := S64x200) off S1x16.size inb).toLoadRect (X : Buf (Elt F) ((thr d i).loc cc0_scratch0))) shapeCasts_S1x16_S16)
    {dec : Decidable (∀ a x, ((![rv, ids] : Fin 2 → IVec S16 32) a x).toNat < S64x1024.size a)} {hs}
    {α : Type} {k : PUnit → Prog (TpuEff nD τ sig (Elt F) Λ₀ (thr d i).2) α} {Q : α → sProp 𝕄} :
    hPts d i (hist (tokOf X) t (pos 0))
      ⊢ iprop((hPts d i (hist (tokOf X) t (pos 16)) -∗ wp frame (wpE (defs₀ (F := F)) 𝒱₀ (thr d i) none) Set.univ (k ⟨⟩) Q)
        -∗ wp frame (wpE (defs₀ (F := F)) 𝒱₀ (thr d i) none) Set.univ
            (.op (.assume (∀ a x, ((![rv, ids] : Fin 2 → IVec S16 32) a x).toNat < S64x1024.size a) dec) fun hw =>
                SparseCore.vectorStoreIdx (s := S64x1024) sH ![rv, ids] ones mask true hw.down hs >>= k) Q) := by
  subst hids
  iintro HH Hk
  have h0 : t < 64 := by have h : off 0 + 1 ≤ 64 := inb 0; rw [ho.eq, hoff] at h; exact h
  have hlane := fun k => lane_tok (F := F) (ho.eq.trans hoff) inb X k
  rw [wp_assume_of _ _ _ _ (by
    intro a x
    match a with
    | 0 => exact (hr x).trans_lt h0
    | 1 =>
      obtain ⟨k, rfl⟩ : ∃ k, x = Shape.ofLane (d := ![16]) k := ⟨x 0, by funext a; match a with | 0 => rfl⟩
      exact (hlane k).trans_lt (tokOf_lt hX _ _))]
  ihave HH' := (Entails.of_eq (hPts_access d i _)) $$ HH
  iapply (SparseCore.wp_vectorStoreIdx 𝒱₀ (thr d i) none Set.univ (base := sH)) $$ HH'
  iintro HH
  iapply Hk
  rw [hPts_access, read_hist, write_hist, storeIdx_hist (tokOf X) t rv _ ones mask pos _ hr hv
    (fun k hm => ⟨by rw [(hon k hm).1]; exact (hlane k).symm, (hon k hm).2⟩) hoffm]
  iexact HH

end Cert.Proof.Hist

end
-- ==== Proof.Trips.lean ====
/-
  One trip of each of a tile's loops: a row's sixty-four stores of zeros, a row's thirteen indexed adds.
-/
module

public import proofs.«01_k».proof.Proof.Step

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords)

theorem pay4_zero (x : S16.Idx) : k0_pay4 (F := F) x = zeroF := rfl
theorem pay3_one (x : S16.Idx) : k0_pay3 (F := F) x = oneF := rfl

abbrev t1b : Fin k0_t1_loop.trips → Unit → Prog (TpuEff nD τ sig (Elt F) Λ₀ (thr d i).2) Unit :=
  k0_t1_body (F := F) i xV (Memref.isWhole_whole _) oV (Memref.isWhole_whole _) sX (Memref.isWhole_whole _) sH (Memref.isWhole_whole _) cc0_scoped0 cc0_scoped1 cc0_scoped2 cc0_scoped3

set_option maxHeartbeats 4000000 in
/-- A row's stores of zeros. -/
theorem t1_trip (t : Fin k0_t1_loop.trips) :
    (zPts d i t.val 0 : sProp 𝕄) ⊢ wp frame (wpE (defs₀ (F := F)) 𝒱₀ (thr d i) none) Set.univ (t1b d i t ()) fun _ => zPts d i t.val 1024 := by
  iintro H
  unfold t1b k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret]
  iterate 64 (iapply (wp_zero d i rfl pay4_zero) $$ H; iintro H)
  iapply (le_wp_ret frame _ _)
  iexact H

abbrev t3b : Fin k0_t3_loop.trips → Unit → Prog (TpuEff nD τ sig (Elt F) Λ₀ (thr d i).2) Unit :=
  k0_t3_body (F := F) i xV (Memref.isWhole_whole _) oV (Memref.isWhole_whole _) sX (Memref.isWhole_whole _) sH (Memref.isWhole_whole _) cc0_scoped0 cc0_scoped1 cc0_scoped2 cc0_scoped3 k0_pay4

set_option maxHeartbeats 4000000 in
theorem t3_trip (t : Fin k0_t3_loop.trips) :
    (zPts d i t.val 0 : sProp 𝕄) ⊢ wp frame (wpE (defs₀ (F := F)) 𝒱₀ (thr d i) none) Set.univ (t3b d i t ()) fun _ => zPts d i t.val 1024 := by
  iintro H
  unfold t3b k0_t3_body
  simp only [k0_part7_eq_skeleton, k0_part8_eq_skeleton, k0_part9_eq_skeleton, k0_part10_eq_skeleton, k0_part11_eq_skeleton]
  unfold k0_part7_skel k0_part8_skel k0_part9_skel k0_part10_skel k0_part11_skel
  simp only [Prog.lift, Prog.bind_op, Prog.bind_ret, Prog.pure_eq_ret]
  iterate 64 (iapply (wp_zero d i rfl pay4_zero) $$ H; iintro H)
  iapply (le_wp_ret frame _ _)
  iexact H

/-- The row's number, in every lane of the row indices. -/
theorem iv_row (t : Fin 64) : (Scf.iv 0#32 1#32 t.val).toNat = t.val := by revert t; decide

theorem row_lanes (t : Fin 64) (x : S16.Idx) : ((broadcast S16 (Scf.iv 0#32 1#32 t.val) : IVec S16 32) x).toNat = t.val := iv_row t

/-- Lane `k` of the tail's mask is set from lane `8` on. -/
theorem pay5_lane (k : Fin 16) : k0_pay5 (Shape.ofLane (d := ![16]) k) = 1 ↔ 8 ≤ k.val := by revert k; decide

abbrev t2b : Fin k0_t2_loop.trips → Unit → Prog (TpuEff nD τ sig (Elt F) Λ₀ (thr d i).2) Unit :=
  k0_t2_body (F := F) i xV (Memref.isWhole_whole _) oV (Memref.isWhole_whole _) sX (Memref.isWhole_whole _) sH (Memref.isWhole_whole _) cc0_scoped0 cc0_scoped1 cc0_scoped2 cc0_scoped3

/-- The tokens of a row in before lane `j` of an unmasked group from column `c`. -/
abbrev full (c j : ℕ) : ℕ := c + j
/-- The tokens of a row in before lane `j` of the tail group. -/
abbrev tail (j : ℕ) : ℕ := max 192 (184 + j)

/-- An unmasked group. -/
theorem wp_add_full {X : S64x200.Idx → BitVec 32} (hX : ∀ j, (X j).toNat < 1024) {t c : ℕ} {off : Fin 2 → ℕ} [ho : ClosedOff off]
    {rv : IVec S16 32} {ones : FVec F S16 .f32}
    (hoff : ho.form = ![t, c]) (hr : ∀ x, (rv x).toNat = t) (hv : ∀ x, ones x = oneF)
    {inb : ∀ a, off a + S1x16.size a ≤ S64x200.size a} {ids : IVec S16 32}
    (hids : ids = shapeCast S16 (sX.view.readAt (Elt F) (Rect.unit (s := S64x200) off S1x16.size inb).toLoadRect (X : Buf (Elt F) ((thr d i).loc cc0_scratch0))) shapeCasts_S1x16_S16)
    {dec : Decidable (∀ a x, ((![rv, ids] : Fin 2 → IVec S16 32) a x).toNat < S64x1024.size a)} {hs}
    {α : Type} {k : PUnit → Prog (TpuEff nD τ sig (Elt F) Λ₀ (thr d i).2) α} {Q : α → sProp 𝕄} :
    hPts d i (hist (tokOf X) t c)
      ⊢ iprop((hPts d i (hist (tokOf X) t (c + 16)) -∗ wp frame (wpE (defs₀ (F := F)) 𝒱₀ (thr d i) none) Set.univ (k ⟨⟩) Q)
        -∗ wp frame (wpE (defs₀ (F := F)) 𝒱₀ (thr d i) none) Set.univ
            (.op (.assume (∀ a x, ((![rv, ids] : Fin 2 → IVec S16 32) a x).toNat < S64x1024.size a) dec) fun hw =>
                SparseCore.vectorStoreIdx (s := S64x1024) sH ![rv, ids] ones (fun _ => 1#1) true hw.down hs >>= k) Q) :=
  wp_add d i hX (full c) hoff hr hv (fun _ _ => ⟨rfl, rfl⟩) (fun _ h => absurd rfl h) hids

/-- The masked tail of a row: its last eight tokens. -/
theorem wp_add_tail {X : S64x200.Idx → BitVec 32} (hX : ∀ j, (X j).toNat < 1024) {t : ℕ} {off : Fin 2 → ℕ} [ho : ClosedOff off]
    {rv : IVec S16 32} {ones : FVec F S16 .f32}
    (hoff : ho.form = ![t, 184]) (hr : ∀ x, (rv x).toNat = t) (hv : ∀ x, ones x = oneF)
    {inb : ∀ a, off a + S1x16.size a ≤ S64x200.size a} {ids : IVec S16 32}
    (hids : ids = shapeCast S16 (sX.view.readAt (Elt F) (Rect.unit (s := S64x200) off S1x16.size inb).toLoadRect (X : Buf (Elt F) ((thr d i).loc cc0_scratch0))) shapeCasts_S1x16_S16)
    {dec : Decidable (∀ a x, ((![rv, ids] : Fin 2 → IVec S16 32) a x).toNat < S64x1024.size a)} {hs}
    {α : Type} {k : PUnit → Prog (TpuEff nD τ sig (Elt F) Λ₀ (thr d i).2) α} {Q : α → sProp 𝕄} :
    hPts d i (hist (tokOf X) t 192)
      ⊢ iprop((hPts d i (hist (tokOf X) t 200) -∗ wp frame (wpE (defs₀ (F := F)) 𝒱₀ (thr d i) none) Set.univ (k ⟨⟩) Q)
        -∗ wp frame (wpE (defs₀ (F := F)) 𝒱₀ (thr d i) none) Set.univ
            (.op (.assume (∀ a x, ((![rv, ids] : Fin 2 → IVec S16 32) a x).toNat < S64x1024.size a) dec) fun hw =>
                SparseCore.vectorStoreIdx (s := S64x1024) sH ![rv, ids] ones k0_pay5 true hw.down hs >>= k) Q) :=
  wp_add d i hX tail hoff hr hv
    (fun k h => by have := (pay5_lane k).1 h; exact ⟨show max 192 (184 + k.val) = 184 + k.val by omega, show max 192 (184 + (k.val + 1)) = max 192 (184 + k.val) + 1 by omega⟩)
    (fun k h => by have := mt (pay5_lane k).2 h; show max 192 (184 + (k.val + 1)) = max 192 (184 + k.val); omega) hids

set_option maxHeartbeats 1000000 in
theorem t2_trip {X : S64x200.Idx → BitVec 32} (hX : ∀ j, (X j).toNat < 1024) (t : Fin k0_t2_loop.trips) :
    (iprop(xPts d i X ∗ hPts d i (hist (tokOf X) t.val 0)) : sProp 𝕄)
      ⊢ wp frame (wpE (defs₀ (F := F)) 𝒱₀ (thr d i) none) Set.univ (t2b d i t ()) fun _ => iprop(xPts d i X ∗ hPts d i (hist (tokOf X) t.val 200)) := by
  iintro ⟨HX, HH⟩
  unfold t2b k0_t2_body
  simp only [k0_part6_eq_skeleton]
  unfold k0_part6_skel
  delta k0_pay1
  simp only [Prog.lift, Prog.bind_op, Prog.bind_ret, Prog.pure_eq_ret, bind_assoc]
  iterate 12
    iapply (wp_load 𝒱₀ (thr d i) none Set.univ (m := sX) (S := Finset.univ) (Finset.subset_univ _)) $$ HX
    iintro HX
    iapply (wp_add_full d i hX rfl (row_lanes t) pay3_one rfl) $$ HH
    iintro HH
  iapply (wp_load 𝒱₀ (thr d i) none Set.univ (m := sX) (S := Finset.univ) (Finset.subset_univ _)) $$ HX
  iintro HX
  iapply (wp_add_tail d i hX rfl (row_lanes t) pay3_one rfl) $$ HH
  iintro HH
  iapply (le_wp_ret frame _ _)
  isplitl [HX]
  · iexact HX
  · iexact HH

abbrev t4b : Fin k0_t4_loop.trips → Unit → Prog (TpuEff nD τ sig (Elt F) Λ₀ (thr d i).2) Unit :=
  k0_t4_body (F := F) i xV (Memref.isWhole_whole _) oV (Memref.isWhole_whole _) sX (Memref.isWhole_whole _) sH (Memref.isWhole_whole _) cc0_scoped0 cc0_scoped1 cc0_scoped2 cc0_scoped3 k0_pay3 k0_pay5

set_option maxHeartbeats 1000000 in
theorem t4_trip {X : S64x200.Idx → BitVec 32} (hX : ∀ j, (X j).toNat < 1024) (t : Fin k0_t4_loop.trips) :
    (iprop(xPts d i X ∗ hPts d i (hist (tokOf X) t.val 0)) : sProp 𝕄)
      ⊢ wp frame (wpE (defs₀ (F := F)) 𝒱₀ (thr d i) none) Set.univ (t4b d i t ()) fun _ => iprop(xPts d i X ∗ hPts d i (hist (tokOf X) t.val 200)) := by
  iintro ⟨HX, HH⟩
  unfold t4b k0_t4_body
  simp only [k0_part12_eq_skeleton]
  unfold k0_part12_skel
  delta k0_pay2
  simp only [Prog.lift, Prog.bind_op, Prog.bind_ret, Prog.pure_eq_ret, bind_assoc]
  iterate 12
    iapply (wp_load 𝒱₀ (thr d i) none Set.univ (m := sX) (S := Finset.univ) (Finset.subset_univ _)) $$ HX
    iintro HX
    iapply (wp_add_full d i hX rfl (row_lanes t) pay3_one rfl) $$ HH
    iintro HH
  iapply (wp_load 𝒱₀ (thr d i) none Set.univ (m := sX) (S := Finset.univ) (Finset.subset_univ _)) $$ HX
  iintro HX
  iapply (wp_add_tail d i hX rfl (row_lanes t) pay3_one rfl) $$ HH
  iintro HH
  iapply (le_wp_ret frame _ _)
  isplitl [HX]
  · iexact HX
  · iexact HH

end Cert.Proof.Hist

end
-- ==== Proof.Body.lean ====
/-
  A tile's task: two chunks of sixty-four rows, each fetched, counted in scratch and written back. It leaves in the
  counts' rows of its chunks the number of times each token occurs in that row of the tokens.
-/
module

public import proofs.«01_k».proof.Proof.Trips

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What the task computes -/

/-- Token `l` of row `r` of the whole token array, as a number. -/
def tokAll (X : S4096x200.Idx → BitVec 32) (r l : ℕ) : ℕ :=
  if h : r < 4096 ∧ l < 200 then (X (pair ⟨r, h.1⟩ ⟨l, h.2⟩)).toNat else 0

/-- The counts: entry `(r, v)` is the value of a histogram entry hit as often as `v` occurs in row `r`. -/
def counts (X : S4096x200.Idx → BitVec 32) : S4096x1024.Idx → F .f32 :=
  fun j => natF (cnt (tokAll X) (j 0).val (j 1).val 200)

/-! ## The arrays' rows a chunk takes -/

/-- A chunk's rows, from the word the program adds to its tile's first row (`0` or `64`). -/
abbrev xRow (i : grid0.Coords) (w : BitVec 32) (h : ∀ a, k0_off1 i w a + S64x200.size a ≤ S4096x200.size a) : Memref sig .scVector .hbm S64x200 .i32 :=
  xV.slice (Rect.unit (s := S4096x200) (k0_off1 i w) S64x200.size h) (fun _ => rfl)
abbrev oRow (i : grid0.Coords) (w : BitVec 32) (h : ∀ a, k0_off79 i w a + S64x1024.size a ≤ S4096x1024.size a) : Memref sig .scVector .hbm S64x1024 .f32 :=
  oV.slice (Rect.unit (s := S4096x1024) (k0_off79 i w) S64x1024.size h) (fun _ => rfl)

section Tile

variable (d : Dev nD) (i : grid0.Coords)

abbrev cell0 : GSem nD τ sig := (thr d i, .dma cc0_scoped0.sem)
abbrev cell1 : GSem nD τ sig := (thr d i, .dma cc0_scoped1.sem)
abbrev cell2 : GSem nD τ sig := (thr d i, .dma cc0_scoped2.sem)
abbrev cell3 : GSem nD τ sig := (thr d i, .dma cc0_scoped3.sem)

/-- The four transfer counters are among the subcore's own: they are them and the rest. -/
abbrev restSems : sProp 𝕄 := bigSep (((((ownCells (thr d i)).erase (cell0 d i)).erase (cell1 d i)).erase (cell2 d i)).erase (cell3 d i)) fun g => semVal g 0

theorem cell_mem (s : DmaSems sig S_) (h : (SemLoc.dma s.sem : SemLoc sig).isScoped .scVector = true) :
    ((thr d i, SemLoc.dma s.sem) : GSem nD τ sig) ∈ ownCells (thr d i) := mem_ownCells.mpr ⟨rfl, h⟩

theorem ownSems0_tile : (ownSems0 (thr d i) : sProp 𝕄)
    = iprop(semVal (cell0 d i) 0 ∗ semVal (cell1 d i) 0 ∗ semVal (cell2 d i) 0 ∗ semVal (cell3 d i) 0 ∗ restSems d i) := by
  have ne : ∀ {s t : DmaSems sig S_}, (SemLoc.dma s.sem : SemLoc sig) ≠ SemLoc.dma t.sem →
      ((thr d i, SemLoc.dma s.sem) : GSem nD τ sig) ≠ (thr d i, SemLoc.dma t.sem) := fun h e => h (Prod.mk.inj e).2
  unfold SparseCore.Cfg.ownSems0
  rw [SparseCore.bigSep_erase' (cell_mem d i cc0_scoped0 (by decide)),
    SparseCore.bigSep_erase' (Finset.mem_erase.mpr ⟨ne (t := cc0_scoped0) (by decide), cell_mem d i cc0_scoped1 (by decide)⟩),
    SparseCore.bigSep_erase' (Finset.mem_erase.mpr ⟨ne (t := cc0_scoped1) (by decide), Finset.mem_erase.mpr ⟨ne (t := cc0_scoped0) (by decide),
      cell_mem d i cc0_scoped2 (by decide)⟩⟩),
    SparseCore.bigSep_erase' (Finset.mem_erase.mpr ⟨ne (t := cc0_scoped2) (by decide), Finset.mem_erase.mpr ⟨ne (t := cc0_scoped1) (by decide),
      Finset.mem_erase.mpr ⟨ne (t := cc0_scoped0) (by decide), cell_mem d i cc0_scoped3 (by decide)⟩⟩⟩)]

abbrev scr (b : Ref sig .scVector) : DevRef τ sig := (Proc.scVector (cV i) (jV i)).devRef b
abbrev restBufs : sProp 𝕄 := bigSep (((ownRefs (τ := τ) (.scVector (cV i) (jV i))).erase (scr i cc0_scratch0)).erase (scr i cc0_scratch1))
  fun b => iprop(∃ f, ((d, b) : Loc nD τ sig) ↦{fullShare} f)

/-- The two scratch buffers are among the subcore's own: they are them, at some contents, and the rest. -/
theorem ownBufs_tile : (ownBufs (thr d i) : sProp 𝕄)
    = iprop((∃ X, xPts d i X) ∗ (∃ H, hPts d i H) ∗ restBufs d i) := by
  unfold SparseCore.Cfg.ownBufs
  refine (SparseCore.bigSep_erase' (SparseCore.Cfg.mem_ownRefs_of_owner (p := Proc.scVector (cV i) (jV i)) (b := scr i cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := scr i cc0_scratch1) rfl⟩)]
  rfl

/-- Rows of the tokens and of the counts, as a chunk's slices name them. -/
abbrev xRowPts (w : BitVec 32) (h : ∀ a, k0_off1 i w a + S64x200.size a ≤ S4096x200.size a) (X : S4096x200.Idx → BitVec 32) : sProp 𝕄 :=
  (xRow i w h).view.loc (thr d i) ↦[(xRow i w h).view.set]{fullShare} (X : Buf (Elt F) ((thr d i).loc main_arg0_scv))
abbrev oRowPts (w : BitVec 32) (h : ∀ a, k0_off79 i w a + S64x1024.size a ≤ S4096x1024.size a) (C : S4096x1024.Idx → F .f32) : sProp 𝕄 :=
  (oRow i w h).view.loc (thr d i) ↦[(oRow i w h).view.set]{fullShare} (C : Buf (Elt F) ((thr d i).loc main_v0_scv))
/-- What a tile takes of the two arrays: the rows of its two chunks, the tokens' and the counts'. -/
abbrev tilePts (X : S4096x200.Idx → BitVec 32) (C : S4096x1024.Idx → F .f32) : sProp 𝕄 :=
  iprop((xRowPts d i 0#32 (k0_off1_inb i 0) X ∗ oRowPts d i 0#32 (k0_off79_inb i 0) C)
    ∗ (xRowPts d i 64#32 (k0_off1_inb i 1) X ∗ oRowPts d i 64#32 (k0_off79_inb i 1) C))

theorem pts_sX (X : S64x200.Idx → BitVec 32) :
    (xPts d i X : sProp 𝕄) = (sX.view.loc (thr d i) ↦[sX.view.set]{fullShare} (X : Buf (Elt F) ((thr d i).loc cc0_scratch0))) := by
  simp only [Memref.view_whole, View.set_whole]
theorem pts_sH (H : S64x1024.Idx → F .f32) :
    (hPts d i H : sProp 𝕄) = (sH.view.loc (thr d i) ↦[sH.view.set]{fullShare} (H : Buf (Elt F) ((thr d i).loc cc0_scratch1))) := by
  simp only [Memref.view_whole, View.set_whole]

/-- The token rows a chunk fetches. -/
abbrev chunk {w : BitVec 32} (h : ∀ a, k0_off1 i w a + S64x200.size a ≤ S4096x200.size a) (X : S4096x200.Idx → BitVec 32) : S64x200.Idx → BitVec 32 :=
  (xRow i w h).view.read (Elt F) (X : Buf (Elt F) ((thr d i).loc main_arg0_scv))

theorem fetched {w : BitVec 32} (h : ∀ a, k0_off1 i w a + S64x200.size a ≤ S4096x200.size a) (X : S4096x200.Idx → BitVec 32) (X0 : S64x200.Idx → BitVec 32) :
    (sX.view.loc (thr d i) ↦[sX.view.set]{fullShare}
      (sX.view.writes (Elt F) (X0 : Buf (Elt F) ((thr d i).loc cc0_scratch0)) [⟨Rect.whole S64x200, chunk (F := F) i h X⟩]) : sProp 𝕄)
      = xPts d i (chunk (F := F) i h X) := by
  rw [pts_sX]
  congr 1
  rw [View.writes_singleton]
  exact Memref.write_access_whole_univ (Elt F) (cc0_scratch0 : Ref sig .scVector) _ _

theorem zPts_start (H : S64x1024.Idx → F .f32) : (hPts d i H : sProp 𝕄) ⊢ zPts d i 0 0 := by
  iintro HP
  iexists H
  isplitr
  · ipureintro
    intro j hj
    omega
  · iexact HP

theorem zPts_next (t : ℕ) : (zPts d i t 1024 : sProp 𝕄) ⊢ zPts d i (t + 1) 0 := by
  iintro ⟨%H, %hH, HP⟩
  iexists H
  isplitr
  · ipureintro
    rintro j (h | ⟨-, h⟩)
    · refine hH j ?_
      have h1 : (j 1).val < 1024 := (j 1).isLt
      omega
    · exact absurd h (Nat.not_lt_zero _)
  · iexact HP

theorem zPts_hist (T : ℕ → ℕ → ℕ) : (zPts d i 64 0 : sProp 𝕄) ⊢ hPts d i (hist T 0 0) := by
  iintro ⟨%H, %hH, HP⟩
  rw [hist_start, show (fun _ => zeroF) = H from funext fun j => (hH j (.inl (j 0).isLt)).symm]
  iexact HP

/-- Token `l` of row `k` of a chunk is token `l` of the row of the whole array that the chunk's rows begin at, and `k`. -/
theorem chunk_tok (r : Fin 2) (h : ∀ a, k0_off1 i (BitVec.ofNat 32 (64 * r.val)) a + S64x200.size a ≤ S4096x200.size a) (X : S4096x200.Idx → BitVec 32) {k l : ℕ}
    (hk : k < 64) (hl : l < 200) :
    tokOf (chunk (F := F) i h X) k l = tokAll X (2048 * (i 0).val + 128 * (i 1).val + 64 * r.val + k) l := by
  have h0 := h 0
  rw [k0_off1_eq i r] at h0
  have h0' : 2048 * (i 0).val + 128 * (i 1).val + 64 * r.val + 64 ≤ 4096 := h0
  unfold tokOf tokAll
  rw [dif_pos ⟨hk, hl⟩, dif_pos ⟨by omega, hl⟩]
  refine congrArg (fun j => (X j).toNat) ?_
  funext a
  apply Fin.ext
  show k0_off1 i (BitVec.ofNat 32 (64 * r.val)) a + 1 * (pair (m := 64) (n := 200) ⟨k, hk⟩ ⟨l, hl⟩ a).val = _
  rw [k0_off1_eq i r]
  match a with
  | 0 => show 2048 * (i 0).val + 128 * (i 1).val + 64 * r.val + 1 * k = 2048 * (i 0).val + 128 * (i 1).val + 64 * r.val + k; omega
  | 1 => show 0 + 1 * l = l; omega

theorem cnt_congr {T T' : ℕ → ℕ → ℕ} {r r' n : ℕ} (v : ℕ) (h : ∀ l < n, T r l = T' r' l) : cnt T r v n = cnt T' r' v n :=
  Finset.sum_congr rfl fun l hl => by rw [h l (Finset.mem_range.mp hl)]

/-- On a chunk's rows the counts are those of the chunk's own histogram. -/
theorem counts_emb (r : Fin 2) (hx : ∀ a, k0_off1 i (BitVec.ofNat 32 (64 * r.val)) a + S64x200.size a ≤ S4096x200.size a)
    (ho : ∀ a, k0_off79 i (BitVec.ofNat 32 (64 * r.val)) a + S64x1024.size a ≤ S4096x1024.size a) (X : S4096x200.Idx → BitVec 32) (j : S64x1024.Idx) :
    counts (F := F) X ((oRow i _ ho).view.emb j) = hist (tokOf (chunk (F := F) i hx X)) 64 0 j := by
  have h0 : ((oRow i _ ho).view.emb j 0).val = k0_off79 i (BitVec.ofNat 32 (64 * r.val)) 0 + 1 * (j 0).val := rfl
  have h1 : ((oRow i _ ho).view.emb j 1).val = k0_off79 i (BitVec.ofNat 32 (64 * r.val)) 1 + 1 * (j 1).val := rfl
  rw [k0_off79_eq i r] at h0 h1
  simp only [Matrix.cons_val_zero, Matrix.cons_val_one, one_mul, zero_add] at h0 h1
  rw [hist_end]
  unfold counts
  rw [h0, h1]
  exact congrArg natF (cnt_congr _ fun l hl => (chunk_tok i r hx X (j 0).isLt hl).symm)

/-- What a chunk's write-back leaves on its rows is the counts there. -/
theorem stored (r : Fin 2) (w : BitVec 32) (hw : w = BitVec.ofNat 32 (64 * r.val)) (hx : ∀ a, k0_off1 i w a + S64x200.size a ≤ S4096x200.size a)
    (ho : ∀ a, k0_off79 i w a + S64x1024.size a ≤ S4096x1024.size a) (X : S4096x200.Idx → BitVec 32)
    (C : Buf (Elt F) ((oRow i w ho).view.loc (thr d i))) (v : S64x1024.Idx → F .f32) (hv : v = hist (tokOf (chunk (F := F) i hx X)) 64 0) :
    ((oRow i w ho).view.loc (thr d i) ↦[(oRow i w ho).view.set]{fullShare} ((oRow i w ho).view.writes (Elt F) C [⟨Rect.whole S64x1024, v⟩]) : sProp 𝕄)
      = oRowPts d i w ho (counts X) := by
  subst hw hv
  refine pointsTo_congr fun y hy => ?_
  obtain ⟨j, -, rfl⟩ := Finset.mem_map.mp hy
  refine Eq.trans ?_ (counts_emb i r hx ho X j).symm
  rw [View.writes_singleton]
  have he : (oRow i (BitVec.ofNat 32 (64 * r.val)) ho).view.emb j = ((oRow i (BitVec.ofNat 32 (64 * r.val)) ho).view.slice (Rect.whole S64x1024)).emb j :=
    congrArg (oRow i (BitVec.ofNat 32 (64 * r.val)) ho).view.emb (Rect.emb_whole_apply S64x1024 j).symm
  rw [he, View.write_emb_of_mem _ _ (Finset.mem_univ _)]
  rfl

set_option maxHeartbeats 1000000 in
/-- The task's run: it takes its rows of the two arrays and leaves the counts in the counts' rows. -/
theorem tile_body (hF : (K (F := F)).Facts) {X : S4096x200.Idx → BitVec 32} (hX : ∀ j, (X j).toNat < 1024) (C : S4096x1024.Idx → F .f32)
    (O : CellTallies nD τ sig (HIx 1)) (W : Waits sig (HIx 1)) (hO : ∀ g, O g none = 0) :
    iprop(levAts (K (F := F)).L (K (F := F)).lev ∗ emp
        ∗ tilePts d i X C
        ∗ scopedBufs (thr d i) ∗ scopedSems0 (thr d i) ∗ owes (thr d i) O W)
      ⊢ wp frame (wpE (defs₀ (F := F)) 𝒱₀ (thr d i) none) Set.univ
          (cc0_hist_kernel i xV (Memref.isWhole_whole _) oV (Memref.isWhole_whole _) sX (Memref.isWhole_whole _) sH (Memref.isWhole_whole _)
            cc0_scoped0 cc0_scoped1 cc0_scoped2 cc0_scoped3)
          fun _ => iprop(tilePts d i X (counts X)
            ∗ scopedBufs (thr d i) ∗ scopedSems0 (thr d i) ∗ ∃ W', ⌜∀ p ∈ W', p ∈ W ∨ p.2 = none⌝ ∗ owes (thr d i) O W') := by
  simp only [cc0_hist_kernel_eq_skeleton]; unfold cc0_hist_kernel_skel
  simp only [k0_part13_eq_skeleton]; unfold k0_part13_skel
  simp only [Prog.lift, Prog.bind_op, Prog.bind_ret, Prog.pure_eq_ret, bind_assoc]
  rw [(K (F := F)).scopedBufs_V hF d (cV i) (jV i), SparseCore.Cfg.scopedSems0_V (Val := Elt F) d (cV i) (jV i), ownSems0_tile, ownBufs_tile]
  iintro ⟨#Hlv, -, ⟨⟨Hx0, Ho0⟩, ⟨Hx1, Ho1⟩⟩, ⟨⟨%XS, Hsx⟩, ⟨%HS, Hsh⟩, Hbufs⟩, ⟨Hs0, Hs1, Hs2, Hs3, Hsems⟩, HO⟩
  ihave Hmw := ((K (F := F)).mayWaits_none (thr := thr d i) hO) $$ Hlv
  unfold xRowPts oRowPts xRow oRow
  ihave Hsx' := (Entails.of_eq (pts_sX d i XS)) $$ Hsx
  obtain ⟨X0, hX0e⟩ : ∃ X0, X0 = chunk (F := F) i (k0_off1_inb i 0) X := ⟨_, rfl⟩
  obtain ⟨X1, hX1e⟩ : ∃ X1, X1 = chunk (F := F) i (k0_off1_inb i 1) X := ⟨_, rfl⟩
  have hX0 : ∀ j, (X0 j).toNat < 1024 := hX0e ▸ fun j => hX _
  have hX1 : ∀ j, (X1 j).toNat < 1024 := hX1e ▸ fun j => hX _
  sl_exec
  unfold tile_body.sl.dma0
  ihave Hx := (Entails.of_eq (fetched d i (k0_off1_inb i 0) X _)) $$ Hsx'
  rw [← hX0e]
  ihave Hz := (zPts_start d i HS) $$ Hsh
  sl_for (fun t _ => zPts d i t 0) $$ [Hz]
  case region =>
    intro k _
    exact (t1_trip d i k).trans (wp_mono frame _ _ fun _ => zPts_next d i k.val)
  · iexact Hz
  iintro %_ Hz
  rw [show Scf.trips k0_t1_loop.lb k0_t1_loop.ub k0_t1_loop.st = 64 by decide]
  ihave Hh := (zPts_hist d i (tokOf X0)) $$ Hz
  sl_for (fun t _ => iprop(xPts d i X0 ∗ hPts d i (hist (tokOf X0) t 0))) $$ [Hx Hh]
  case region =>
    intro k _
    exact (t2_trip d i hX0 k).trans (wp_mono frame _ _ fun _ => Entails.of_eq (by rw [hist_next]))
  · isplitl [Hx]
    · iexact Hx
    · iexact Hh
  iintro %_ ⟨Hx, Hh⟩
  rw [show Scf.trips k0_t2_loop.lb k0_t2_loop.ub k0_t2_loop.st = 64 by decide]
  ihave Hsx := (Entails.of_eq (pts_sX d i _)) $$ Hx
  ihave Hsh := (Entails.of_eq (pts_sH d i _)) $$ Hh
  sl_exec
  unfold tile_body.sl.dma0_2
  ihave Hx := (Entails.of_eq (fetched d i (k0_off1_inb i 1) X _)) $$ Hsx
  rw [← hX1e]
  ihave Hsh := (Entails.of_eq (pts_sH d i _).symm) $$ Hsh
  ihave Hz := (zPts_start d i _) $$ Hsh
  sl_for (fun t _ => zPts d i t 0) $$ [Hz]
  case region =>
    intro k _
    exact (t3_trip d i k).trans (wp_mono frame _ _ fun _ => zPts_next d i k.val)
  · iexact Hz
  iintro %_ Hz
  rw [show Scf.trips k0_t3_loop.lb k0_t3_loop.ub k0_t3_loop.st = 64 by decide]
  ihave Hh := (zPts_hist d i (tokOf X1)) $$ Hz
  sl_for (fun t _ => iprop(xPts d i X1 ∗ hPts d i (hist (tokOf X1) t 0))) $$ [Hx Hh]
  case region =>
    intro k _
    exact (t4_trip d i hX1 k).trans (wp_mono frame _ _ fun _ => Entails.of_eq (by rw [hist_next]))
  · isplitl [Hx]
    · iexact Hx
    · iexact Hh
  iintro %_ ⟨Hx, Hh⟩
  rw [show Scf.trips k0_t4_loop.lb k0_t4_loop.ub k0_t4_loop.st = 64 by decide]
  ihave Hsx := (Entails.of_eq (pts_sX d i _)) $$ Hx
  ihave Hsh := (Entails.of_eq (pts_sH d i _)) $$ Hh
  sl_exec
  sl_step
  unfold tile_body.sl.dma0_1 tile_body.sl.dma0_3
  subst hX0e hX1e
  have e0 := stored (F := F) d i 0 0#32 rfl (k0_off1_inb i 0) (k0_off79_inb i 0) X (oRow i 0#32 (k0_off79_inb i 0)).view.junk
    (ReadAs.same.apply (View.read (Elt F) sH.view (hist (tokOf (chunk i (k0_off1_inb i 0) X)) 64 0))) rfl
  have e1 := stored (F := F) d i 1 64#32 rfl (k0_off1_inb i 1) (k0_off79_inb i 1) X C
    (ReadAs.same.apply (View.read (Elt F) sH.view (hist (tokOf (chunk i (k0_off1_inb i 1) X)) 64 0))) rfl
  unfold oRow at e0 e1
  ihave Ho0 := (Entails.of_eq e0) $$ Ho0
  ihave Ho1 := (Entails.of_eq e1) $$ Ho1
  ihave Hsx := (Entails.of_eq (pts_sX d i _).symm) $$ Hsx
  ihave Hsh := (Entails.of_eq (pts_sH d i _).symm) $$ Hsh
  isplitl [Hx0 Ho0 Hx1 Ho1]
  · isplitl [Hx0 Ho0]
    · isplitl [Hx0]; · iexact Hx0
      iexact Ho0
    · isplitl [Hx1]; · iexact Hx1
      iexact Ho1
  isplitl [Hsx Hsh Hbufs]
  · isplitl [Hsx]; · iexists _; iexact Hsx
    isplitl [Hsh]; · iexists _; iexact Hsh
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _
  isplitr
  rotate_left
  · iexact HO
  · ipureintro
    intro p hp
    simp only [Finset.mem_insert] at hp
    rcases hp with rfl | rfl | rfl | rfl | hp
    iterate 4 exact .inr rfl
    exact .inl hp

end Tile

end Cert.Proof.Hist

end
-- ==== Proof.Deal.lean ====
/-
  The SparseCore call as the launch sees it: what every tile takes and gives back, the obligation its task meets, and
  the two whole arrays as the rows of the sixty-four chunks.
-/
module

public import proofs.«01_k».proof.Proof.Body

@[expose] public section

noncomputable section

namespace Cert.Proof.Hist

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

abbrev xLoc (d : Dev nD) : Loc nD τ sig := (SparseCore.T d).loc main_arg0
abbrev oLoc (d : Dev nD) : Loc nD τ sig := (SparseCore.T d).loc main_v0

/-! ## The arrays as rows of chunks -/

/-- The first row of chunk `r` of tile `s` of core `c`. -/
def start (p : Fin 2 × Fin 16 × Fin 2) : ℕ := 2048 * p.1.val + 128 * p.2.1.val + 64 * p.2.2.val

theorem start_apart {p q : Fin 2 × Fin 16 × Fin 2} (h : p ≠ q) {n : ℕ} (hp : start p ≤ n ∧ n < start p + 64) (hq : start q ≤ n ∧ n < start q + 64) : False := by
  obtain ⟨a, b, c⟩ := p
  obtain ⟨a', b', c'⟩ := q
  simp only [start] at hp hq
  refine h ?_
  have h1 : a.val = a'.val := by omega
  have h2 : b.val = b'.val := by omega
  have h3 : c.val = c'.val := by omega
  rw [Fin.ext h1, Fin.ext h2, Fin.ext h3]

theorem start_cover {n : ℕ} (hn : n < 4096) : ∃ p, start p ≤ n ∧ n < start p + 64 :=
  ⟨(⟨n / 2048, by omega⟩, ⟨n % 2048 / 128, by omega⟩, ⟨n % 128 / 64, by omega⟩), by simp only [start]; omega⟩

omit [FloatOps F] in
/-- An array held whole is its chunks' rows held apart. -/
theorem deal {ℓ : Loc nD τ sig} (row : Idx ℓ → ℕ) (hrow : ∀ j, row j < 4096) (K : Fin 2 × Fin 16 × Fin 2 → Finset (Idx ℓ))
    (hK : ∀ p j, j ∈ K p ↔ start p ≤ row j ∧ row j < start p + 64) (f : Buf (Elt F) ℓ) :
    (ℓ ↦{fullShare} f : sProp 𝕄)
      = bigSep Finset.univ fun c : Fin 2 => bigSep Finset.univ fun s : Fin 16 =>
          iprop((ℓ ↦[K (c, s, 0)]{fullShare} f) ∗ ℓ ↦[K (c, s, 1)]{fullShare} f) := by
  have hd : ∀ p ∈ (Finset.univ : Finset (Fin 2 × Fin 16 × Fin 2)), ∀ q ∈ (Finset.univ : Finset (Fin 2 × Fin 16 × Fin 2)), p ≠ q → Disjoint (K p) (K q) :=
    fun p _ q _ h => Finset.disjoint_left.2 fun j hp hq => start_apart h ((hK p j).1 hp) ((hK q j).1 hq)
  have hc : (Finset.univ : Finset (Fin 2 × Fin 16 × Fin 2)).biUnion K = Finset.univ := by
    ext j
    obtain ⟨p, hp⟩ := start_cover (hrow j)
    simpa only [Finset.mem_biUnion, Finset.mem_univ, true_and, iff_true] using ⟨p, (hK p j).2 hp⟩
  have h : (ℓ ↦[Finset.univ.biUnion K]{fullShare} f : sProp 𝕄) = bigSep Finset.univ fun p => ℓ ↦[K p]{fullShare} f :=
    pointsTo_biUnion Finset.univ K hd
  rw [hc] at h
  refine h.trans ?_
  rw [BI.bigSep_univ_prod]
  refine bigSep_congr fun c _ => ?_
  rw [BI.bigSep_univ_prod]
  exact bigSep_congr fun s _ => BI.bigSep_fin_two _

theorem xRow_mem (i : grid0.Coords) (r : Fin 2) (j : S4096x200.Idx) :
    j ∈ (xRow i (BitVec.ofNat 32 (64 * r.val)) (k0_off1_inb i r)).view.set
      ↔ 2048 * (i 0).val + 128 * (i 1).val + 64 * r.val ≤ (j 0).val ∧ (j 0).val < 2048 * (i 0).val + 128 * (i 1).val + 64 * r.val + 64 := by
  have e : (xRow i (BitVec.ofNat 32 (64 * r.val)) (k0_off1_inb i r)).view.set
      = (Rect.unit (s := S4096x200) (k0_off1 i (BitVec.ofNat 32 (64 * r.val))) S64x200.size (k0_off1_inb i r)).set := by
    show ((View.whole (main_arg0_scv : Ref sig .scVector)).slice _).set = _
    rw [View.set_slice]; exact Finset.map_refl
  rw [e, Rect.mem_set_unit, k0_off1_eq i r]
  refine ⟨fun h => h 0, fun h a => ?_⟩
  match a with
  | 0 => exact h
  | 1 => exact ⟨Nat.zero_le _, by show (j 1).val < 0 + 200; have := (j 1).isLt; rw [Nat.zero_add]; exact this⟩

theorem oRow_mem (i : grid0.Coords) (r : Fin 2) (j : S4096x1024.Idx) :
    j ∈ (oRow i (BitVec.ofNat 32 (64 * r.val)) (k0_off79_inb i r)).view.set
      ↔ 2048 * (i 0).val + 128 * (i 1).val + 64 * r.val ≤ (j 0).val ∧ (j 0).val < 2048 * (i 0).val + 128 * (i 1).val + 64 * r.val + 64 := by
  have e : (oRow i (BitVec.ofNat 32 (64 * r.val)) (k0_off79_inb i r)).view.set
      = (Rect.unit (s := S4096x1024) (k0_off79 i (BitVec.ofNat 32 (64 * r.val))) S64x1024.size (k0_off79_inb i r)).set := by
    show ((View.whole (main_v0_scv : Ref sig .scVector)).slice _).set = _
    rw [View.set_slice]; exact Finset.map_refl
  rw [e, Rect.mem_set_unit, k0_off79_eq i r]
  refine ⟨fun h => h 0, fun h a => ?_⟩
  match a with
  | 0 => exact h
  | 1 => exact ⟨Nat.zero_le _, by show (j 1).val < 0 + 1024; have := (j 1).isLt; rw [Nat.zero_add]; exact this⟩

theorem xPts_deal (d : Dev nD) (X : S4096x200.Idx → BitVec 32) :
    (xLoc d ↦{fullShare} (X : Buf (Elt F) (xLoc d)) : sProp 𝕄)
      = bigSep Finset.univ fun c : Fin 2 => bigSep Finset.univ fun s : Fin 16 =>
          iprop(xRowPts d (coordsV c s) 0#32 (k0_off1_inb _ 0) X ∗ xRowPts d (coordsV c s) 64#32 (k0_off1_inb _ 1) X) :=
  deal (ℓ := xLoc d) (fun j : S4096x200.Idx => (j 0).val) (fun j => (j 0).isLt)
    (fun p => (xRow (coordsV p.1 p.2.1) (BitVec.ofNat 32 (64 * p.2.2.val)) (k0_off1_inb _ p.2.2)).view.set)
    (fun p j => xRow_mem (coordsV p.1 p.2.1) p.2.2 j) X

theorem oPts_deal (d : Dev nD) (C : S4096x1024.Idx → F .f32) :
    (oLoc d ↦{fullShare} (C : Buf (Elt F) (oLoc d)) : sProp 𝕄)
      = bigSep Finset.univ fun c : Fin 2 => bigSep Finset.univ fun s : Fin 16 =>
          iprop(oRowPts d (coordsV c s) 0#32 (k0_off79_inb _ 0) C ∗ oRowPts d (coordsV c s) 64#32 (k0_off79_inb _ 1) C) :=
  deal (ℓ := oLoc d) (fun j : S4096x1024.Idx => (j 0).val) (fun j => (j 0).isLt)
    (fun p => (oRow (coordsV p.1 p.2.1) (BitVec.ofNat 32 (64 * p.2.2.val)) (k0_off79_inb _ p.2.2)).view.set)
    (fun p j => oRow_mem (coordsV p.1 p.2.1) p.2.2 j) C

omit [FloatOps F] in
theorem swap_mid (A B C E : sProp 𝕄) : (iprop((A ∗ B) ∗ C ∗ E) : sProp 𝕄) = iprop((A ∗ C) ∗ B ∗ E) := by
  have h : ∀ A B C E : sProp 𝕄, iprop((A ∗ B) ∗ C ∗ E) ⊢ iprop((A ∗ C) ∗ B ∗ E) := fun A B C E => by
    iintro ⟨⟨H1, H2⟩, H3, H4⟩
    isplitl [H1 H3]
    · isplitl [H1] <;> iassumption
    · isplitl [H2] <;> iassumption
  exact Entails.antisymm (h A B C E) (h A C B E)

/-- Both arrays are the tiles' rows of them. -/
theorem tiles_deal (d : Dev nD) (X : S4096x200.Idx → BitVec 32) (C : S4096x1024.Idx → F .f32) :
    (iprop((xLoc d ↦{fullShare} (X : Buf (Elt F) (xLoc d))) ∗ oLoc d ↦{fullShare} (C : Buf (Elt F) (oLoc d))) : sProp 𝕄)
      = bigSep Finset.univ fun c : Fin 2 => bigSep Finset.univ fun s : Fin 16 => tilePts d (coordsV c s) X C := by
  rw [xPts_deal, oPts_deal, ← bigSep_sep']
  refine bigSep_congr fun c _ => ?_
  rw [← bigSep_sep']
  refine bigSep_congr fun s _ => ?_
  exact swap_mid _ _ _ _

/-! ## The call's payloads and obligations -/

section Pay

variable (m : (ℓ : Loc nD τ sig) → Buf (Elt F) ℓ)

/-- The tokens and the counts' array at launch. -/
abbrev X₀ (d : Dev nD) : S4096x200.Idx → BitVec 32 := m (xLoc d)
abbrev C₀ (d : Dev nD) : S4096x1024.Idx → F .f32 := m (oLoc d)

/-- What the launch's contents must meet: every token is below the histogram's width. -/
def PreOK : Prop := ∀ (d : Dev nD) (j : S4096x200.Idx), (X₀ m d j).toNat < 1024

/-- A tile takes its chunks' rows and gives them back, the counts' rows at the counts; a core takes its tiles'. -/
def P : (K (F := F)).Pay (nD := nD) (Val := Elt F) (Name := ℕ) (U := UU) where
  st := fun q d c => match q with | 0 => bigSep Finset.univ fun s : Fin 16 => tilePts d (coordsV ⟨c.val, c.isLt⟩ s) (X₀ m d) (C₀ m d)
  dn := fun q d c => match q with | 0 => bigSep Finset.univ fun s : Fin 16 => tilePts d (coordsV ⟨c.val, c.isLt⟩ s) (X₀ m d) (counts (X₀ m d))
  go := fun q d c s => match q with | 0 => tilePts d (coordsV ⟨c.val, c.isLt⟩ ⟨s.val, s.isLt⟩) (X₀ m d) (C₀ m d)
  td := fun q d c s => match q with | 0 => tilePts d (coordsV ⟨c.val, c.isLt⟩ ⟨s.val, s.isLt⟩) (X₀ m d) (counts (X₀ m d))
  x := fun _ _ => iprop(emp)

instance P_storable : (P (F := F) m).IsStorable where
  st q d c := by match q with | 0 => unfold P; infer_instance
  dn q d c := by match q with | 0 => unfold P; infer_instance
  go q d c s := by match q with | 0 => unfold P; infer_instance
  td q d c s := by match q with | 0 => unfold P; infer_instance

theorem defs₀_vector (c : Fin τ.nSC) (s : Fin τ.nSub) :
    defs₀ (F := F) (.scVector c s) 0 ()
      = SparseCore.onTile hcore0 hsub0 (fun c s => cc0_hist_kernel (coordsV c s) xV (Memref.isWhole_whole _) oV (Memref.isWhole_whole _)
          sX (Memref.isWhole_whole _) sH (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (hpre d) (C₀ m d) O W hO).trans (wp_mono frame _ _ fun _ => obl_post)

theorem vecSplit : (K (F := F)).VecSplit' (P m) 0 := by
  intro d c
  show (bigSep Finset.univ fun s : Fin 16 => tilePts d (coordsV ⟨c.val, c.isLt⟩ s) (X₀ m d) (C₀ m d)) ⊢ |={Set.univ}=> iprop(
      (bigSep Finset.univ fun s : Fin 16 => tilePts d (coordsV ⟨c.val, c.isLt⟩ s) (X₀ m d) (C₀ m d))
      ∗ ((bigSep Finset.univ fun s : Fin 16 => tilePts d (coordsV ⟨c.val, c.isLt⟩ s) (X₀ m d) (counts (X₀ m d)))
          -∗ bigSep Finset.univ fun s : Fin 16 => tilePts d (coordsV ⟨c.val, c.isLt⟩ s) (X₀ m d) (counts (X₀ m d))))
  iintro H; imodintro
  isplitl [H]; · iexact H
  iintro H; iexact H

/-- What the call takes for the two cores, and what it hands back: the two arrays whole. -/
theorem st_eq (d : Dev nD) : (bigSep Finset.univ fun c : Fin ((K (F := F)).nCore 0) => (P m).st 0 d c)
    = (iprop((xLoc d ↦{fullShare} m (xLoc d)) ∗ oLoc d ↦{fullShare} m (oLoc d)) : sProp 𝕄) :=
  (tiles_deal d (X₀ m d) (C₀ m d)).symm
theorem dn_eq (d : Dev nD) : (bigSep Finset.univ fun c : Fin ((K (F := F)).nCore 0) => (P m).dn 0 d c)
    = (iprop((xLoc d ↦{fullShare} m (xLoc d)) ∗ oLoc d ↦{fullShare} (counts (X₀ m d) : Buf (Elt F) (oLoc d))) : sProp 𝕄) :=
  (tiles_deal d (X₀ m d) (counts (X₀ m d))).symm

end Pay

end Cert.Proof.Hist

end
-- ==== Proof.Pipe.lean ====
/-
  The dense part on the TensorCore: one step's run, the contents of the windows at every step, and the region from the
  buffers at any contents to the same with the result's array filled block by block.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.VecWindow

@[expose] public section

noncomputable section

namespace Cert.Proof.Hist

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig (HIx 1) (Elt F) ℕ UU ℕ

/-! ## One step -/

/-- A step reads its six windows and leaves the block of the result. -/
theorem mlp_run (c : Dev nD) (i : grid1.Coords)
    (M1 : Memref sig .tc .vmem S256x1024 .f32) (h1 : M1.IsWhole) (M2 : Memref sig .tc .vmem S1000x512 .f32) (h2 : M2.IsWhole)
    (M3 : Memref sig .tc .vmem S512x512 .f32) (h3 : M3.IsWhole) (M4 : Memref sig .tc .vmem S1x512 .f32) (h4 : M4.IsWhole)
    (M5 : Memref sig .tc .vmem S512x1000 .f32) (h5 : M5.IsWhole) (M6 : Memref sig .tc .vmem S1x1000 .f32) (h6 : M6.IsWhole)
    (M7 : Memref sig .tc .vmem S256x1000 .f32) (h7 : M7.IsWhole)
    (X1 : Vec F S256x1024 .f32) (X2 : Vec F S1000x512 .f32) (X3 : Vec F S512x512 .f32) (X4 : Vec F S1x512 .f32) (X5 : Vec F S512x1000 .f32) (X6 : Vec F S1x1000 .f32)
    (X7 : Vec F S256x1000 .f32) :
    (iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7) : sProp 𝕄)
      ⊢ wp frame (wpE (defs₀ (F := F)) 𝒱₀ (c : Thread nD τ) none) Set.univ (cc1__mlp_body (F := F) i M1 h1 M2 h2 M3 h3 M4 h4 M5 h5 M6 h6 M7 h7) fun _ =>
        iprop(owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5 ∗ owns (c : Thread nD τ) M6 fullShare X6
          ∗ owns (c : Thread nD τ) M7 fullShare (k1_pay1 X1 X2 X3 X4 X5 X6)) := by
  rw [cc1__mlp_body_eq_skeleton]
  unfold cc1__mlp_body_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, -, H7⟩⟩
  sl_exec
  sl_step
  rw [View.readAt_full, View.readAt_full, View.readAt_full, View.readAt_full, View.readAt_full, View.readAt_full, e1, e2, e3, e4, e5, e6]
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  iexists _; isplitr; swap; (· iexact H7); ipureintro
  exact View.read_writes_full _ _ _ _ _

/-! ## The windows' contents -/

section Region

variable (V : (c : Dev nD) → (b : Ref sig .tc) → Buf (Elt F) ((c : Thread nD τ).loc b))

/-- Window `w`'s block at step `t`, read off the buffers' contents. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the recorded waits of the TensorCore may be once the SparseCore's call is done. -/
def recd (c : Dev nD) : Set (SemLoc sig × HIx 1) := {p | (K (F := F)).lev (T c, p.1) p.2 ≤ 8}

def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => k1_pay1 (F := F) (iblk V c 0 t) (iblk V c 1 t) (iblk V c 2 t) (iblk V c 3 t) (iblk V c 4 t) (iblk V c 5 t)
  Φ _ := BI.emp
  q _ := fullShare
  owed _ := 0
  recorded _ := recd (F := F) c

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d
theorem before_4 (c : Dev nD) (t : Fin cfg1.N) (d) : (dat V c).before 4 t d = iblk V c 4 t :=
  (dat V c).before_in_eq_fetched 4 rfl (fun _ => rfl) (fun _ _ _ => rfl) (fun _ => rfl) t d
theorem before_5 (c : Dev nD) (t : Fin cfg1.N) (d) : (dat V c).before 5 t d = iblk V c 5 t :=
  (dat V c).before_in_eq_fetched 5 rfl (fun _ => rfl) (fun _ _ _ => rfl) (fun _ => rfl) t d

theorem row_eq (t : Fin cfg1.N) : defs₀ (F := F) .tc cfg1.body (cfg1.bodyArgs t (cfg1.slots t)) = bodyAt1 t := rfl

/-- The step's obligation. -/
theorem body_obligation (c : Dev nD) : BodyObligation (dat V c) (defs₀ (F := F)) 𝒱₀ none Set.univ := fun t => by
  rw [bigSep_W1, bigSep_W1, row_eq]
  rw [show (dat V c).Φ t.castSucc = BI.emp from rfl, show (dat V c).Φ t.succ = BI.emp from rfl,
    show (dat V c).owesAt none t.succ = (dat V c).owesAt none t.castSucc from rfl]
  iintro ⟨-, HO, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  iapply (wp_wand frame) $$ [H0 H1 H2 H3 H4 H5 H6]
  · iapply (mlp_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6))
    (iblk V c 0 t) (iblk V c 1 t) (iblk V c 2 t) (iblk V c 3 t) (iblk V c 4 t) (iblk V c 5 t) ((dat V c).before 6 t d6))
    isplitl [H0]; · iexact H0
    isplitl [H1]; · iexact H1
    isplitl [H2]; · iexact H2
    isplitl [H3]; · iexact H3
    isplitl [H4]; · iexact H4
    isplitl [H5]; · iexact H5
    iexact H6
  iintro %_ ⟨H0, H1, H2, H3, H4, H5, H6⟩
  isplitr; · iempintro
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-! ## The region -/

def adm : (p : Fin 1) → (pcfgs (F := F) p).Adm := fun | 0 => ⟨fun k => k.elim0, trivial⟩ | ⟨_ + 1, h⟩ => absurd h (Nat.not_lt.2 (Nat.le_add_left _ _))

def pdats : (p : Fin 1) → (c : Dev nD) → Dat τ (Elt F) (HIx 1) ℕ UU ℕ (Pipeline.pin (pcfgs (F := F)) adm p) c
  | ⟨0, _⟩ => fun c => dat V c

/-- The result's array once every step has written its block. -/
def result (c : Dev nD) : Buf (Elt F) ((c : Thread nD τ).loc main_v3) := (dat V c).arrAt 6 cfg1.N

variable (Vp : (c : Dev nD) → (b : Ref sig .tc) → Buf (Elt F) ((c : Thread nD τ).loc b))

theorem win_in : ∀ w : Fin 7, w ≠ 6 → (spec1 w).isOut = false ∧ Pipeline.arrRef spec1 w ≠ main_v3 := by decide

set_option backward.isDefEq.respectTransparency.types false in
/-- The region, from every unscoped buffer at `V` to the same at `Vp`, which differs in the result's array only. -/
def reg (hVp_out : ∀ c, Vp c main_v3 = result V c) (hVp_ne : ∀ c (b : Ref sig .tc), b ≠ main_v3 → Vp c b = V c b) :
    Pipeline.RegionSeg (pcfgs (F := F)) adm (pdats V) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ ∃ W, ⌜↑W ⊆ recd (F := F) c⌝ ∗ owes (c : Thread nD τ) (0 : CellTallies nD τ sig (HIx 1)) W)
  post c := iprop(unscopedBufs c (Vp c) ∗ ∃ W, ⌜↑W ⊆ recd (F := F) c⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => .inl (hW hp)
      iexact HO
    isplitr; · iempintro
    iexact Hrest
  hin c := by
    rw [show (pdats V 0 c).Φ 0 = BI.emp from rfl]
    iintro ⟨-, -, Hr⟩
    ihave Hr := (Entails.of_eq (scopedRest1_eq c)) $$ Hr
    iexact Hr
  hout c := by
    rw [Pipeline.ownSems0_none, show (pdats V 0 c).Φ (Fin.last _) = BI.emp from rfl]
    iintro -
    isplitr; · iempintro
    isplitr; · iempintro
    iapply (Entails.of_eq (scopedRest1_eq c).symm)
    iempintro
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        by_cases hw : w = 6
        · subst hw; exact (hVp_out c).symm
        · exact ((pdats V 0 c).arrAt_in w (win_in w hw).1 _).trans (hVp_ne c _ (win_in w hw).2).symm)
      (fun b hb => hVp_ne c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W; isplitr
    · ipureintro
      intro p hp
      rcases hW hp with h | ⟨_, _, rfl⟩
      · exact h
      · show (K (F := F)).lev _ none ≤ 8
        rw [SparseCore.Cfg.lev_none]; exact Nat.zero_le _
    iexact HO

end Region

end Cert.Proof.Hist

end
-- ==== Proof.Run.lean ====
/-
  The whole program's run: the counts from the SparseCore call, the two reshapes, the dense part; what is in every
  unscoped buffer afterwards, and that every semaphore is back at zero.
-/
module

public import proofs.«01_k».proof.Proof.Deal
public import proofs.«01_k».proof.Proof.Pipe

@[expose] public section

noncomputable section

namespace Cert.Proof.Hist

open Cert.KernelIdeal Cert.KernelIdeal.Gen

open Idealize.ShloMosaic Idealize.ShloMosaic.TcCoe
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (pin)

variable {F : FTy → Type} [FloatOps F]

local notation "𝕄" => MT nD τ sig (HIx 1) (Elt F) ℕ UU ℕ

/-! ## The ghost state at launch -/

theorem pinj : Function.Injective (Pipeline.cellOf (nD := nD) (τ := τ) (pin (pcfgs (F := F)) adm)) := cellOf_inj

def uP : UP := initOf (Pipeline.cells (pin (pcfgs (F := F)) adm) pinj) (Pipeline.launchToks (pin (pcfgs (F := F)) adm) pinj)
def u₀ : UU := ((initOf (K (F := F)).hsCells (K (F := F)).hsToks, uP (F := F)), 1)

/-- The dense part's cells and tokens, for one device. -/
abbrev G (d : Dev nD) : sProp 𝕄 :=
  iprop(Pipeline.cellsGhost (pin (pcfgs (F := F)) adm) EP 0 d ∗ Pipeline.toksInit (pin (pcfgs (F := F)) adm) EP 0 d)

omit [FloatOps F] in
theorem ownU_split (a : UH) (b : UP) : (ownU ((a, b), (1 : Counters)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one 1)))

omit [FloatOps F] in
theorem bigSep_emp' {I : Type} (s : Finset I) : (bigSep s fun _ => iprop(emp)) = (iprop(emp) : sProp 𝕄) := bigSep_emp_const s

variable (m : (ℓ : Loc nD τ sig) → Buf (Elt F) ℓ) (ρ : Dev nD → PrngReg)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  unfold uP
  imod (Pipeline.fund_ghost (pin (pcfgs (F := F)) adm) EP pinj) $$ HP with ⟨Hg, Ht⟩
  imodintro
  isplitl [HH]; · iexact HH
  isplitl [Hg Ht]
  · rw [bigSep_sep']
    have hg : ∀ Φ : Fin 1 → sProp 𝕄, bigSep Finset.univ Φ = Φ 0 := fun Φ => bigSep_univ_of_subsingleton (0 : Fin 1)
    simp only [hg]
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The buffers after each operation -/

def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

abbrev x' : DevRef τ sig := Proc.devRef .tc (main_arg0 : Ref sig .tc)
abbrev o' : DevRef τ sig := Proc.devRef .tc (main_v0 : Ref sig .tc)
abbrev r' : DevRef τ sig := Proc.devRef .tc (main_v3 : Ref sig .tc)

abbrev op1 : HloOp τ sig (Elt F) := StableHlo.reshape main_arg3 main_v1 (rfl : (.f32 : EltTy) = .f32) shapeCasts_S512_S1x512
abbrev op2 : HloOp τ sig (Elt F) := StableHlo.reshape main_arg5 main_v2 (rfl : (.f32 : EltTy) = .f32) shapeCasts_S1000_S1x1000

def V0 (d : Dev nD) : Valuation τ sig (Elt F) := fun b => m (d, b)
/-- The counts in place, -/
def V1 (d : Dev nD) : Valuation τ sig (Elt F) := Function.update (V0 m d) o' (counts (X₀ m d))
/-- the two rows reshaped, -/
def V3 (d : Dev nD) : Valuation τ sig (Elt F) := (op2 (F := F)).result ((op1 (F := F)).result (V1 m d))
/-- the result in place. -/
def V4 (d : Dev nD) : Valuation τ sig (Elt F) := Function.update (V3 m d) r' (result (fun c b => V3 m c b) d)

theorem ucRefs_split (d : Dev nD) (W : Valuation τ sig (Elt F)) :
    (held (SparseCore.T d) ucRefs W : sProp 𝕄)
      = iprop((xLoc d ↦{fullShare} W x') ∗ (oLoc d ↦{fullShare} W o') ∗ held (SparseCore.T d) ((ucRefs.erase x').erase o') W) := by
  have hx : x' ∈ ucRefs := Finset.mem_filter.mpr ⟨StableHlo.devRef_mem_tcRefs _, by decide⟩
  have ho : o' ∈ ucRefs.erase x' := Finset.mem_erase.mpr ⟨by decide, Finset.mem_filter.mpr ⟨StableHlo.devRef_mem_tcRefs _, by decide⟩⟩
  unfold held
  rw [BI.bigSep_erase hx, BI.bigSep_erase ho]
  rfl

theorem V1_rest (d : Dev nD) : (held (SparseCore.T d) ((ucRefs.erase x').erase o') (V1 m d) : sProp 𝕄) = held (SparseCore.T d) ((ucRefs.erase x').erase o') (V0 m d) := by
  unfold held
  refine bigSep_congr fun b hb => ?_
  unfold V1
  rw [Function.update_of_ne (Finset.ne_of_mem_erase hb)]

/-! ## The dense part, entered from the program -/

/-- The dense part's region at the contents the run has there. -/
abbrev theReg : Pipeline.RegionSeg (pcfgs (F := F)) adm (pdats fun c b => V3 m c b) none (defs₀ (F := F)) 𝒱₀ (K (F := F)).L (K (F := F)).lev 0 :=
  reg (fun c b => V3 m c b) (fun c b => V4 m c b) (fun _ => Function.update_self _ _ _)
    (fun _ _ hb => Function.update_of_ne (fun h => hb (Proc.devRef_injective _ h)) _ _)

theorem theReg_pre (d : Dev nD) : (theReg m).pre d
    = iprop(unscopedBufs d (fun b => V3 m d b) ∗ ∃ W, ⌜↑W ⊆ recd (F := F) d⌝ ∗ owes (d : Thread nD τ) (0 : CellTallies nD τ sig (HIx 1)) W) := rfl
theorem theReg_post (d : Dev nD) : (theReg m).post d
    = iprop(unscopedBufs d (fun b => V4 m d b) ∗ ∃ W, ⌜↑W ⊆ recd (F := F) d⌝ ∗ owes (d : Thread nD τ) (0 : CellTallies nD τ sig (HIx 1)) W) := rfl

theorem region_run [∀ e, Nonempty (Elt F e)] (d : Dev nD) (Q : PUnit → sProp 𝕄) :
    iprop((iprop(boundary (SparseCore.T d) ∗ (theReg m).post d) -∗ Q ⟨⟩)
        ∗ boundary (SparseCore.T d) ∗ (theReg m).pre d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  iintro ⟨HQ, Hb, Hpre, Hl, Hg, Ht⟩
  iapply ((K (F := F)).wp_liftProg (D (F := F)) 𝒱 (SparseCore.T d) Set.univ none
    (Prog.lift (.customCall (Pipeline.entry (0 : Fin 1)) ())) Q)
  iapply (Pipeline.RegionSeg.wp (pcfgs (F := F)) adm (pdats fun c b => V3 m c b) none pinj EP (defs₀ (F := F)) 𝒱₀
    (K (F := F)).L (K (F := F)).lev (theReg m) d none (fun _ h => nomatch h) .ret Q)
  isplitl [HQ]
  · iintro ⟨Hb, Hp⟩
    rw [wp_ret]; imodintro
    iapply HQ
    isplitl [Hb] <;> iassumption
  isplitl [Hb]; · iexact Hb
  isplitl [Hpre]; · iexact Hpre
  isplitl [Hl]; · iexact Hl
  isplitl [Hg] <;> iassumption

/-! ## @main on the TensorCore -/

/-- What @main leaves: every unscoped buffer at its last contents. -/
abbrev FIN (d : Dev nD) : sProp 𝕄 := unscopedBufs d (fun b => V4 m d b)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have h0 : (unscopedBufs d (fun b => m ((SparseCore.T d).loc b)) : sProp 𝕄) = held (SparseCore.T d) ucRefs (V0 m d) := unscopedBufs_held d (V0 m d)
  rw [h0, ucRefs_split]
  simp only [main, wp_bind, wp_pure]
  iintro ⟨#Hctx, Hst, ⟨Hb, ⟨Hx, Ho, Hrest⟩, Hts, -⟩, HG⟩
  -- the call: the tokens and the counts' array to the tiles and back
  iapply ((K (F := F)).wp_run (D (F := F)) 𝒱 (EH := EH) (P := P m) κ d 0) $$ [Hst Hx Ho Hb Hrest Hts HG]
  isplitr; · iexact Hctx
  isplitl [Hst]; · iexact Hst
  isplitl [Hx Ho]
  · rw [st_eq]
    isplitl [Hx]; · iexact Hx
    iexact Ho
  iintro ⟨Hst, Hdn⟩
  ihave Hst := (Entails.of_eq (show ((K (F := F)).tcSt EH d ((0 : Fin 1).val + 1) : sProp 𝕄) = (K (F := F)).tcSt EH d 1 from rfl)) $$ Hst
  ihave Hdn' := (Entails.of_eq (dn_eq m d)) $$ Hdn
  icases Hdn' with ⟨Hx, Ho⟩
  -- the two reshapes, over every unscoped buffer
  iapply (wp_hlo_within 𝒱 (SparseCore.T d) none Set.univ (op := op1) (S := ucRefs) (sub_ucRefs _ (StableHlo.reshape_bufs_sub ..)) (V := V1 m d)) $$ [Hb Hx Ho Hrest]
  · isplitl [Hb]; · iexact Hb
    rw [ucRefs_split, V1_rest, show V1 m d x' = m (xLoc d) from Function.update_of_ne (by decide) _ _,
      show V1 m d o' = counts (X₀ m d) from Function.update_self _ _ _]
    isplitl [Hx]; · iexact Hx
    isplitl [Ho]; · iexact Ho
    iexact Hrest
  iintro ⟨Hb, Hheld⟩
  rw [wp_ret]; imodintro
  iapply (wp_hlo_within 𝒱 (SparseCore.T d) none Set.univ (op := op2) (S := ucRefs) (sub_ucRefs _ (StableHlo.reshape_bufs_sub ..)) (V := (op1 (F := F)).result (V1 m d))) $$ [Hb Hheld]
  · isplitl [Hb] <;> iassumption
  iintro ⟨Hb, Hheld⟩
  rw [wp_ret]; imodintro
  -- the dense part
  unfold SparseCore.Cfg.tcSt
  rw [(K (F := F)).Otc_end d (le_refl 1)]
  icases Hst with ⟨⟨%W, %hW, HO⟩, Hst⟩
  iapply (region_run m d _) $$ [Hb Hheld HO HG Hst Hts]
  rw [theReg_pre, theReg_post]
  isplitl [Hst Hts]
  · iintro ⟨Hb, ⟨Hub, %W', %hW', HO⟩⟩
    imodintro
    isplitl [HO Hst]
    · isplitl [HO]
      · iexists W'
        isplitr
        · ipureintro; exact fun p hp => hW' hp
        · iexact HO
      · iexact Hst
    isplitl [Hub]; · iexact Hub
    isplitl [Hb] <;> iassumption
  isplitl [Hb]; · iexact Hb
  isplitl [Hheld HO]
  · isplitl [Hheld]
    · iapply (Entails.of_eq (unscopedBufs_held d (V3 m d)).symm)
      iexact Hheld
    · iexists W
      isplitr
      · ipureintro; exact fun p hp => hW p hp
      · iexact HO
  isplitr
  · iapply ((K (F := F)).ctx_levAts κ); iexact Hctx
  iexact HG

def fq (d : Dev nD) (s' : Phys nD τ sig (Elt F)) : Prop :=
  ∀ b : {b : Ref sig .tc // b ∈ Finset.univ.filter fun b : Ref sig .tc => ¬ b.isScoped}, s'.mem.mem ((d : Thread nD τ).loc b.1) = V4 m d b.1

theorem hfin (d : Dev nD) (s' : Phys nD τ sig (Elt F)) : iprop(FIN m d ∗ SI s') ⊢ (⌜fq m d s'⌝ : sProp 𝕄) := by
  unfold fq
  refine (forall_intro fun b => ?_).trans pure_forall.2
  have hb : (FIN m d : sProp 𝕄) ⊢ (((d : Thread nD τ).loc b.1) ↦{fullShare} V4 m d b.1) :=
    BI.bigSep_elim (Φ := fun b : Ref sig .tc => (((d : Thread nD τ).loc b) ↦{fullShare} V4 m d b : sProp 𝕄)) b.2
  iintro ⟨Hb, HSI⟩
  ihave Hx := hb $$ Hb
  ihave H := (SI_pointsTo_agree (st := s') (ℓ := (d : Thread nD τ).loc b.1) (I := Finset.univ) (q := fullShare) (f := V4 m d b.1)) $$ [HSI Hx]
  · isplitl [HSI] <;> iassumption
  icases H with %hx
  ipureintro; exact funext fun i => hx i (Finset.mem_univ i)

/-! ## The program's run -/

def QC : PUnit × MemSt nD τ sig (Elt F) → Prop := fun r =>
  (∀ (d : Dev nD) (b : {b : Ref sig .tc // b ∈ Finset.univ.filter fun b : Ref sig .tc => ¬ b.isScoped}), r.2.mem ((d : Thread nD τ).loc b.1) = V4 m d b.1)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Hist

end
-- ==== Proof.Frames.lean ====
/-
  The frames: from the precondition, the kernel's run, read at its arguments and its result; the reference's.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_in_range
public import Idealize.ShloMosaic.Lib.ReduceAll
public import Idealize.ShloMosaic.Lib.WordCmp

@[expose] public section

noncomputable section

namespace Cert.Proof.Hist

open Cert.KernelIdeal Cert.KernelIdeal.Gen

open Idealize.ShloMosaic Idealize.ShloMosaic.TcCoe Idealize.SL.Sem

variable {F : FTy → Type} [FloatOps F]

/-- The precondition says every token is at least zero and below a thousand. -/
theorem tok_of_pre (x : IVec S4096x200 32) (e W1 b1 W2 b2)
    (h : Cert.Pre_in_range.fn (F := F) x e W1 b1 W2 b2 = fun _ => 1#1) (j : S4096x200.Idx) : (x j).toNat < 1000 := by
  have key : ∀ v : BitVec 32, IntOp.andi (IntOp.cmpi .sge v 0#32) (IntOp.cmpi .slt v 1000#32) = 1#1 → v.toNat < 1000 := by
    intro v e
    simp only [IntOp.cmpi, WordCmp.andi_ofBool, WordCmp.ofBool_eq_one_iff, Bool.and_eq_true, BitVec.sle_eq_decide, BitVec.slt_eq_decide,
      decide_eq_true_eq, BitVec.toInt_eq_toNat_cond, BitVec.toNat_ofNat, Nat.reducePow, Nat.reduceMod] at e
    omega
  have h0 := congrFun h (fun a => a.elim0)
  simp only [Cert.Pre_in_range.fn] at h0
  haveI : Subsingleton Cert.Pre_in_range.S_.Idx := ⟨fun a b => funext fun k => k.elim0⟩
  exact key _ (Host.reduce_andi_all _ _ _ _ _ h0 j)

variable (m : (ℓ : Loc nD τ sig) → Buf (Elt F) ℓ) (ρ : Dev nD → PrngReg)

/-- The buffers no operation writes end as they began. -/
theorem V4_same (d : Dev nD) (b : Ref sig .tc) (h0 : b ≠ main_v0) (h1 : b ≠ main_v1) (h2 : b ≠ main_v2) (h3 : b ≠ main_v3) :
    V4 m d (Proc.devRef .tc b) = m ((d : Thread nD τ).loc b) := by
  unfold V4 V3 V1
  rw [Function.update_of_ne (fun h => h3 (Proc.devRef_injective _ h)), StableHlo.reshape_result_ne _ _ _ _ _ _ _ h2,
    StableHlo.reshape_result_ne _ _ _ _ _ _ _ h1, Function.update_of_ne (fun h => h0 (Proc.devRef_injective _ h))]
  rfl

/-- The run, read at the arguments and the result. -/
theorem run_read [∀ e, Nonempty (Elt F e)] (hpre : PreOK m) :
    θ_run (Cert.KernelIdeal.defs (F := F)) (Cert.KernelIdeal.threads (F := F)) ⟨m, fun _ => 0, ρ⟩ fun r =>
      (∀ c : Dev nD, r.2.mem ((c : Thread nD τ).loc main_v3) = result (fun c b => V3 m c b) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0 := by
  refine (θ_run Cert.KernelIdeal.defs _ _).mono (fun r h => ?_) (run_main m ρ hpre)
  have hb : ∀ (c : Dev nD) (b : Ref sig .tc), b.isScoped = false → r.2.mem ((c : Thread nD τ).loc b) = V4 m c (Proc.devRef .tc b) :=
    fun c b hb => h.1 c ⟨b, Finset.mem_filter.mpr ⟨Finset.mem_univ _, by rw [hb]; exact Bool.false_ne_true⟩⟩
  have same : ∀ (c : Dev nD) (b : Ref sig .tc), b.isScoped = false ∧ b ≠ main_v0 ∧ b ≠ main_v1 ∧ b ≠ main_v2 ∧ b ≠ main_v3 →
      r.2.mem ((c : Thread nD τ).loc b) = m ((c : Thread nD τ).loc b) :=
    fun c b ⟨hs, h0, h1, h2, h3⟩ => (hb c b hs).trans (V4_same m c b h0 h1 h2 h3)
  exact ⟨fun c => ⟨(hb c main_v3 (by decide)).trans (Function.update_self _ _ _), same c _ (by decide), same c _ (by decide),
    same c _ (by decide), same c _ (by decide), same c _ (by decide), same c _ (by decide)⟩, h.2⟩

/-- The arguments end unchanged and the counters at zero. -/
theorem frame_read [∀ e, Nonempty (Elt F e)] (hpre : ∀ (d : Dev nD) (j : S4096x200.Idx), (X₀ m d j).toNat < 1000) :
    θ_run (Cert.KernelIdeal.defs (F := F)) (Cert.KernelIdeal.threads (F := F)) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5))
      ∧ r.2.sem = fun _ => 0 :=
  (θ_run Cert.KernelIdeal.defs _ _).mono (fun _ h => ⟨fun c => (h.1 c).2, h.2⟩) (run_read m ρ fun d j => (hpre d j).trans (by decide))

set_option smartUnfolding false in
/-- The kernel as written: the same program over the machine words. -/
theorem frame_kernel : Cert.quiescent_Kernel := fun m ρ hpre =>
  frame_read (F := Bits) m ρ fun d j => tok_of_pre _ _ _ _ _ _ (hpre d) j

theorem frame_ideal : Cert.quiescent_KernelIdeal := fun m ρ hpre =>
  frame_read (F := Ideal) m ρ fun d j => tok_of_pre _ _ _ _ _ _ (hpre d) j

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_in_range := fun m ρ _ => frame_reference m ρ trivial

end Cert.Proof.Hist

end
-- ==== Proof.Sums.lean ====
/-
  The counts against the table's rows, and the tokens' rows one by one: the same sum over the extended reals. What both
  programs compute of it is `answer`.
-/
module

public import proofs.«01_k».proof.Proof.Body
public import Idealize.ShloMosaic.Lib.Pointwise

@[expose] public section

noncomputable section

namespace Cert.Proof.Hist

open Cert.KernelIdeal
open Idealize.ShloMosaic

/-- Over the extended reals an entry hit `n` times is `n`. -/
theorem natF_ideal (n : ℕ) : (natF n : Ideal .f32) = ((n : ℕ) : EReal) := by
  induction n with
  | zero => exact Ideal.ofBits_zero_f32.trans Nat.cast_zero.symm
  | succ n ih =>
    show FloatOps.idxAddf (natF n : Ideal .f32) oneF = _
    rw [Ideal.idxAddf_def, ih, show (oneF : Ideal .f32) = 1 from Ideal.ofBits_one_f32, Nat.cast_succ]

/-- The word of `200.0`. -/
theorem ofBits_200 : Ideal.ofBits .f32 0x43480000#32 = ((200 : ℕ) : EReal) := by
  rw [← EReal.coe_coe_eq_natCast]
  simp [Ideal.ofBits, Ideal.ieee, -EReal.coe_mul]; norm_num

/-- Column `d` of the table's row `t`. -/
def row (e : S1000x512.Idx → EReal) (t : ℕ) (d : Fin 512) : EReal := if h : t < 1000 then e (ix2 ⟨t, h⟩ d) else 0

/-- How many of row `r`'s two hundred tokens are not zero. -/
def nonzero (T : ℕ → ℕ → ℕ) (r : ℕ) : ℕ := ∑ l ∈ Finset.range 200, if T r l = 0 then 0 else 1

/-- The sum of the table's rows over row `r`'s tokens, the zeros left out. -/
def rowSum (T : ℕ → ℕ → ℕ) (e : S1000x512.Idx → EReal) (r : ℕ) (d : Fin 512) : EReal :=
  ∑ l ∈ Finset.range 200, if T r l = 0 then 0 else row e (T r l) d

theorem cnt_add_nonzero (T : ℕ → ℕ → ℕ) (r : ℕ) : cnt T r 0 200 + nonzero T r = 200 := by
  unfold cnt nonzero
  rw [← Finset.sum_add_distrib]
  exact (Finset.sum_congr rfl fun l _ => by split <;> rfl).trans (by simp : ∑ _l ∈ Finset.range 200, 1 = 200)

/-- Two hundred less the zeros is the number of the rest. -/
theorem denom_eq (T : ℕ → ℕ → ℕ) (r : ℕ) : ((200 : ℕ) : EReal) - ((cnt T r 0 200 : ℕ) : EReal) = ((nonzero T r : ℕ) : EReal) := by
  rw [← EReal.coe_coe_eq_natCast, ← EReal.coe_coe_eq_natCast, ← EReal.coe_coe_eq_natCast, ← EReal.coe_sub]
  congr 1
  rw [sub_eq_iff_eq_add', ← Nat.cast_add, cnt_add_nonzero]

/-- The counts times the rows, row zero left out, sum to the tokens' rows. -/
theorem counted (T : ℕ → ℕ → ℕ) (r : ℕ) (h : ∀ l, T r l < 1000) (e : S1000x512.Idx → EReal) (d : Fin 512) :
    (∑ v : Fin 1000, if v.val = 0 then 0 else ((cnt T r v.val 200 : ℕ) : EReal) * e (ix2 v d)) = rowSum T e r d := by
  have hv : ∀ v : Fin 1000, (if v.val = 0 then 0 else ((cnt T r v.val 200 : ℕ) : EReal) * e (ix2 v d))
      = ∑ l ∈ Finset.range 200, if T r l = v.val then (if v.val = 0 then 0 else e (ix2 v d)) else 0 := by
    intro v
    by_cases hz : v.val = 0
    · simp only [hz, if_true, ite_self, Finset.sum_const_zero]
    · simp only [if_neg hz]
      rw [← EReal.nsmul_eq_mul]
      unfold cnt
      rw [Finset.sum_smul]
      refine Finset.sum_congr rfl fun l _ => ?_
      split
      · exact one_nsmul _
      · exact zero_nsmul _
  rw [Finset.sum_congr rfl fun v _ => hv v, Finset.sum_comm]
  refine Finset.sum_congr rfl fun l _ => ?_
  rw [Finset.sum_eq_single (⟨T r l, h l⟩ : Fin 1000) (fun v _ hne => if_neg fun he => hne (Fin.ext he.symm))
    (fun hn => absurd (Finset.mem_univ _) hn), if_pos rfl]
  unfold row
  rw [dif_pos (h l)]

/-- The two dense layers on one row's pooled embedding. -/
def mlp (p : Fin 512 → EReal) (W1 : S512x512.Idx → EReal) (b1 : S512.Idx → EReal) (W2 : S512x1000.Idx → EReal) (b2 : S1000.Idx → EReal)
    (c : Fin 1000) : EReal :=
  (∑ k : Fin 512, max ((∑ d : Fin 512, p d * W1 (ix2 d k)) + b1 (ix1 k)) 0 * W2 (ix2 k c)) + b2 (ix1 c)

/-- What both programs compute. -/
def answer (x : S4096x200.Idx → BitVec 32) (e : S1000x512.Idx → EReal) (W1 : S512x512.Idx → EReal) (b1 : S512.Idx → EReal)
    (W2 : S512x1000.Idx → EReal) (b2 : S1000.Idx → EReal) : S4096x1000.Idx → EReal :=
  fun j => mlp (fun d => Ideal.div (rowSum (tokAll x) e (j 0).val d) ((nonzero (tokAll x) (j 0).val : ℕ) : EReal)) W1 b1 W2 b2 (j 1)

end Cert.Proof.Hist

end
-- ==== Proof.Dense.lean ====
/-
  The kernel's result over the extended reals: one step's block, then the blocks laid into the array, is `answer` of the arguments.
-/
module

public import proofs.«01_k».proof.Proof.Run
public import proofs.«01_k».proof.Proof.Sums

@[expose] public section

noncomputable section

namespace Cert.Proof.Hist

open Cert.KernelIdeal Cert.KernelIdeal.Gen

open Idealize.ShloMosaic Idealize.ShloMosaic.TcCoe
open Idealize.ShloMosaic.Pipeline (Dat Window)

/-! ## One step -/

/-- The column number's word is zero only at column zero. -/
theorem select_col (v : Fin 1000) (a b : EReal) :
    Scalar.select (IntOp.cmpi CmpIPredicate.eq (BitVec.ofNat 32 v.val) 0#32) a b = if v.val = 0 then a else b := by
  have hv := v.isLt
  by_cases h : v.val = 0
  · rw [if_pos h, h]; rfl
  · rw [if_neg h]
    have : ¬ BitVec.ofNat 32 v.val = 0#32 := fun e => h (by
      have := congrArg BitVec.toNat e
      simp only [BitVec.toNat_ofNat] at this
      omega)
    simp only [Scalar.select, IntOp.cmpi, beq_eq_false_iff_ne.mpr this]
    exact if_neg (by decide)

/-- A row of the step's block, from the same row of counts. -/
theorem pay_eq (x : S4096x200.Idx → BitVec 32) (hx : ∀ r l, tokAll x r l < 1000) (C : Vec Ideal S256x1024 .f32) (e : Vec Ideal S1000x512 .f32)
    (W1 : Vec Ideal S512x512 .f32) (B1 : Vec Ideal S1x512 .f32) (W2 : Vec Ideal S512x1000 .f32) (B2 : Vec Ideal S1x1000 .f32)
    (b1 : S512.Idx → EReal) (b2 : S1000.Idx → EReal) (hb1 : ∀ k, B1 (ix2 0 k) = b1 (ix1 k)) (hb2 : ∀ k, B2 (ix2 0 k) = b2 (ix1 k))
    (R : Fin 4096) (r : Fin 256) (hC : ∀ v : Fin 1024, C (ix2 r v) = ((cnt (tokAll x) R.val v.val 200 : ℕ) : EReal)) (c : Fin 1000) :
    k1_pay1 (F := Ideal) C e W1 B1 W2 B2 (ix2 r c) = answer x e W1 b1 W2 b2 (ix2 R c) := by
  unfold k1_pay1 answer mlp
  pointwise
  simp only [hC, hb1, hb2, select_col, ofBits_200]
  have hs : ∀ d : Fin 512, (∑ v : Fin 1000, if v.val = 0 then 0 else ((cnt (tokAll x) R.val v.val 200 : ℕ) : EReal) * e (ix2 v d))
      = rowSum (tokAll x) e R.val d := fun d => counted (tokAll x) R.val (hx R.val) e d
  simp only [hs]
  rw [← denom_eq]
  rfl

/-! ## The blocks -/

section Blocks

variable (V : (c : Dev nD) → (b : Ref sig .tc) → Buf (Elt Ideal) ((c : Thread nD τ).loc b)) (c : Dev nD)

/-- A step's rows start at its number times two hundred and fifty-six. -/
theorem index_rows : ∀ t : Fin cfg1.N, win1_0.index t (0 : Fin 2) = t.val ∧ win1_0.index t (1 : Fin 2) = 0
    ∧ win1_6.index t (0 : Fin 2) = t.val ∧ win1_6.index t (1 : Fin 2) = 0 := by decide +kernel

theorem row_lt (t : Fin cfg1.N) (r : Fin 256) : t.val * 256 + r.val < 4096 := by
  have := t.isLt; have h : cfg1.N = 16 := N_1; have := r.isLt; omega

theorem emb_0 (t : Fin cfg1.N) (r : Fin 256) (v : Fin 1024) :
    ((cfg1.win 0).blk t).view.emb (ix2 r v) = (ix2 ⟨t.val * 256 + r.val, row_lt t r⟩ v : S4096x1024.Idx) := by
  obtain ⟨e0, e1, -⟩ := index_rows t
  funext a; apply Fin.ext
  match a with
  | ⟨0, _⟩ => show win1_0.index t (0 : Fin 2) * 256 + 1 * r.val = t.val * 256 + r.val; rw [e0]; omega
  | ⟨1, _⟩ => show win1_0.index t (1 : Fin 2) * 1024 + 1 * v.val = v.val; rw [e1]; omega

theorem emb_6 (t : Fin cfg1.N) (r : Fin 256) (v : Fin 1000) :
    ((cfg1.win 6).blk t).view.emb (ix2 r v) = (ix2 ⟨t.val * 256 + r.val, row_lt t r⟩ v : S4096x1000.Idx) := by
  obtain ⟨-, -, e0, e1⟩ := index_rows t
  funext a; apply Fin.ext
  match a with
  | ⟨0, _⟩ => show win1_6.index t (0 : Fin 2) * 256 + 1 * r.val = t.val * 256 + r.val; rw [e0]; omega
  | ⟨1, _⟩ => show win1_6.index t (1 : Fin 2) * 1000 + 1 * v.val = v.val; rw [e1]; omega

theorem iblk_0 (t : Fin cfg1.N) (r : Fin 256) (v : Fin 1024) :
    iblk V c 0 t (ix2 r v) = V c main_v0 (ix2 ⟨t.val * 256 + r.val, row_lt t r⟩ v : S4096x1024.Idx) :=
  congrArg (V c main_v0) (emb_0 t r v)

/-- A window of one block is its array. -/
theorem iblk_1 (t : Fin cfg1.N) : iblk V c 1 t = V c main_arg1 := funext fun j => congrArg (V c main_arg1) (funext fun a => Fin.ext
  (match a with
  | ⟨0, _⟩ => by show 0 * 1000 + 1 * (j 0).val = (j 0).val; omega
  | ⟨1, _⟩ => by show 0 * 512 + 1 * (j 1).val = (j 1).val; omega))
theorem iblk_2 (t : Fin cfg1.N) : iblk V c 2 t = V c main_arg2 := funext fun j => congrArg (V c main_arg2) (funext fun a => Fin.ext
  (match a with
  | ⟨0, _⟩ => by show 0 * 512 + 1 * (j 0).val = (j 0).val; omega
  | ⟨1, _⟩ => by show 0 * 512 + 1 * (j 1).val = (j 1).val; omega))
theorem iblk_3 (t : Fin cfg1.N) : iblk V c 3 t = V c main_v1 := funext fun j => congrArg (V c main_v1) (funext fun a => Fin.ext
  (match a with
  | ⟨0, _⟩ => by show 0 * 1 + 1 * (j 0).val = (j 0).val; omega
  | ⟨1, _⟩ => by show 0 * 512 + 1 * (j 1).val = (j 1).val; omega))
theorem iblk_4 (t : Fin cfg1.N) : iblk V c 4 t = V c main_arg4 := funext fun j => congrArg (V c main_arg4) (funext fun a => Fin.ext
  (match a with
  | ⟨0, _⟩ => by show 0 * 512 + 1 * (j 0).val = (j 0).val; omega
  | ⟨1, _⟩ => by show 0 * 1000 + 1 * (j 1).val = (j 1).val; omega))
theorem iblk_5 (t : Fin cfg1.N) : iblk V c 5 t = V c main_v2 := funext fun j => congrArg (V c main_v2) (funext fun a => Fin.ext
  (match a with
  | ⟨0, _⟩ => by show 0 * 1 + 1 * (j 0).val = (j 0).val; omega
  | ⟨1, _⟩ => by show 0 * 1000 + 1 * (j 1).val = (j 1).val; omega))

/-- The result's array, from the counts, the weights and the reshaped biases in place. -/
theorem result_of (x : S4096x200.Idx → BitVec 32) (hx : ∀ r l, tokAll x r l < 1000) (b1 : S512.Idx → EReal) (b2 : S1000.Idx → EReal)
    (h0 : V c main_v0 = counts (F := Ideal) x) (h1 : ∀ k, V c main_v1 (ix2 0 k : S1x512.Idx) = b1 (ix1 k))
    (h2 : ∀ k, V c main_v2 (ix2 0 k : S1x1000.Idx) = b2 (ix1 k)) :
    result V c = answer x (V c main_arg1) (V c main_arg2) b1 (V c main_arg4) b2 := by
  refine (dat V c).arrAt_eq_of_cover 6 _ (fun t _ => ?_) (fun i => ?_)
  · show (cfg1.win 6).cut (cfg1.grid.coords t) ((dat V c).after 6 t) = _
    funext (j : S256x1000.Idx)
    obtain ⟨r, v, rfl⟩ : ∃ r v, j = ix2 r v := ⟨j 0, j 1, funext fun a => match a with | ⟨0, _⟩ => rfl | ⟨1, _⟩ => rfl⟩
    show k1_pay1 (F := Ideal) (iblk V c 0 t) (iblk V c 1 t) (iblk V c 2 t) (iblk V c 3 t) (iblk V c 4 t) (iblk V c 5 t) (ix2 r v)
      = answer x (V c main_arg1) (V c main_arg2) b1 (V c main_arg4) b2 (((cfg1.win 6).blk t).view.emb (ix2 r v))
    rw [emb_6, iblk_1, iblk_2, iblk_3, iblk_4, iblk_5]
    refine pay_eq x hx _ _ _ _ _ _ b1 b2 h1 h2 ⟨t.val * 256 + r.val, row_lt t r⟩ r (fun w => ?_) v
    rw [iblk_0, h0]
    exact natF_ideal _
  · have h0 : (i 0).val < 4096 := (i 0).isLt
    have hN : cfg1.N = 16 := N_1
    have ht : (i 0).val / 256 < cfg1.N := by omega
    refine ⟨⟨(i 0).val / 256, ht⟩, flush1_6 _, ?_⟩
    have he := emb_6 ⟨(i 0).val / 256, ht⟩ ⟨(i 0).val % 256, Nat.mod_lt _ (by decide)⟩ (i 1)
    have hi : i = ((cfg1.win 6).blk ⟨(i 0).val / 256, ht⟩).view.emb (ix2 ⟨(i 0).val % 256, Nat.mod_lt _ (by decide)⟩ (i 1)) := by
      refine Eq.trans ?_ he.symm
      funext a
      match a with
      | ⟨0, _⟩ => exact Fin.ext (by show (i 0).val = (i 0).val / 256 * 256 + (i 0).val % 256; omega)
      | ⟨1, _⟩ => rfl
    exact Eq.mpr (congrArg (· ∈ ((cfg1.win 6).blk ⟨(i 0).val / 256, ht⟩).view.set) hi) (View.emb_mem_set _ _)

end Blocks

/-! ## The buffers the region starts from -/

theorem row_512 (f : S512.Idx → EReal) (k : Fin 512) : shapeCast S1x512 f shapeCasts_S512_S1x512 (ix2 0 k) = f (ix1 k) := by pointwise
theorem row_1000 (f : S1000.Idx → EReal) (k : Fin 1000) : shapeCast S1x1000 f shapeCasts_S1000_S1x1000 (ix2 0 k) = f (ix1 k) := by pointwise

variable (m : (ℓ : Loc nD τ sig) → Buf (Elt Ideal) ℓ) (d : Dev nD)

/-- A buffer none of the three writes. -/
theorem V3_rest (b : Ref sig .tc) (h0 : b ≠ main_v0) (h1 : b ≠ main_v1) (h2 : b ≠ main_v2) : V3 m d b = m ((d : Thread nD τ).loc b) := by
  unfold V3 V1
  rw [StableHlo.reshape_result_ne _ _ _ _ _ _ _ h2, StableHlo.reshape_result_ne _ _ _ _ _ _ _ h1,
    Function.update_of_ne (fun h => h0 (Proc.devRef_injective _ h))]
  rfl

theorem V3_counts : V3 m d main_v0 = counts (F := Ideal) (X₀ m d) := by
  unfold V3 V1
  rw [StableHlo.reshape_result_ne _ _ _ _ _ _ _ (by decide), StableHlo.reshape_result_ne _ _ _ _ _ _ _ (by decide)]
  exact Function.update_self _ _ _

theorem V3_bias1 (k : Fin 512) : V3 m d main_v1 (ix2 0 k : S1x512.Idx) = m ((d : Thread nD τ).loc main_arg3) (ix1 k : S512.Idx) := by
  unfold V3
  rw [StableHlo.reshape_result_ne _ _ _ _ _ _ _ (by decide), StableHlo.reshape_result]
  refine (row_512 _ k).trans ?_
  unfold V1
  rw [Function.update_of_ne (by decide)]
  rfl

theorem V3_bias2 (k : Fin 1000) : V3 m d main_v2 (ix2 0 k : S1x1000.Idx) = m ((d : Thread nD τ).loc main_arg5) (ix1 k : S1000.Idx) := by
  unfold V3
  rw [StableHlo.reshape_result]
  refine (row_1000 _ k).trans ?_
  rw [StableHlo.reshape_result_ne _ _ _ _ _ _ _ (by decide)]
  unfold V1
  rw [Function.update_of_ne (by decide)]
  rfl

theorem tokAll_lt (x : S4096x200.Idx → BitVec 32) (h : ∀ j, (x j).toNat < 1000) (r l : ℕ) : tokAll x r l < 1000 := by
  unfold tokAll
  split
  · exact h _
  · decide

/-- The kernel's result is `answer` of its arguments. -/
theorem kernel_value (h : ∀ j : S4096x200.Idx, (X₀ m d j).toNat < 1000) :
    result (fun c b => V3 m c b) d = answer (X₀ m d) (m ((d : Thread nD τ).loc main_arg1)) (m ((d : Thread nD τ).loc main_arg2))
      (m ((d : Thread nD τ).loc main_arg3)) (m ((d : Thread nD τ).loc main_arg4)) (m ((d : Thread nD τ).loc main_arg5)) := by
  rw [result_of (fun c b => V3 m c b) d (X₀ m d) (tokAll_lt _ h) _ _ (V3_counts m d) (V3_bias1 m d) (V3_bias2 m d),
    V3_rest m d main_arg1 (by decide) (by decide) (by decide), V3_rest m d main_arg2 (by decide) (by decide) (by decide),
    V3_rest m d main_arg4 (by decide) (by decide) (by decide)]

end Cert.Proof.Hist

end
-- ==== Proof.Pooled.lean ====
/-
  What the reference makes of a token in range: the wrap leaves it, it is inside the table, the gather reads its row, the
  mask drops the zeros, and the rest are counted.
-/
module

public import proofs.«01_k».proof.Proof.Sums
public import proofs.«01_k».proof.Proof.Gen.ReferenceIdeal
public import Idealize.ShloMosaic.Lib.IndicatorCount

@[expose] public section

noncomputable section

namespace Cert.Proof.Hist

open Idealize.ShloMosaic
open Cert.ReferenceIdeal

/-! ## A token's word -/

theorem toInt_tok (w : BitVec 32) (h : w.toNat < 1000) : w.toInt = (w.toNat : ℤ) :=
  BitVec.toInt_eq_toNat_of_lt (by omega)

theorem sgt_zero (w : BitVec 32) (h : w.toNat < 1000) : IntOp.cmpi CmpIPredicate.sgt w 0#32 = if w.toNat = 0 then 0#1 else 1#1 := by
  have hz : (0#32).slt w = decide (w.toNat ≠ 0) := by
    rw [BitVec.slt_eq_decide, toInt_tok w h]
    refine decide_eq_decide.mpr ?_
    show (0 : ℤ) < _ ↔ _
    omega
  simp only [IntOp.cmpi, hz]
  by_cases h0 : w.toNat = 0 <;> simp [h0]

theorem wrap_tok (w : BitVec 32) (h : w.toNat < 1000) :
    Scalar.select (IntOp.cmpi CmpIPredicate.slt w 0#32) (IntOp.addi w 1000#32) w = w := by
  have hz : w.slt 0#32 = false := by
    rw [BitVec.slt_eq_decide, toInt_tok w h]
    exact decide_eq_false (by show ¬ _ < (0 : ℤ); omega)
  simp only [IntOp.cmpi, hz]
  exact if_neg (by decide)

theorem inside_tok (w : BitVec 32) (h : w.toNat < 1000) :
    IntOp.andi (IntOp.cmpi CmpIPredicate.sge w 0#32) (IntOp.cmpi CmpIPredicate.sle w 999#32) = 1#1 := by
  have h1 : (0#32).sle w = true := by
    rw [BitVec.sle_eq_decide, toInt_tok w h]
    exact decide_eq_true (by show (0 : ℤ) ≤ _; omega)
  have h2 : w.sle 999#32 = true := by
    rw [BitVec.sle_eq_decide, toInt_tok w h]
    exact decide_eq_true (by show _ ≤ (999 : ℤ); omega)
  simp only [IntOp.cmpi, h1, h2]
  decide

/-! ## The gather -/

/-- The gather of the table's rows. -/
abbrev rowsAt : GatherDims S1000x512 S4096x200x1 S4096x200x512 := gather_S1000x512_S4096x200x1_S4096x200x512_2_0_n_n_0_2_1512

/-- The index word of a row is read at its token. -/
theorem gather_row (I : IVec S4096x200x1 32) (r : Fin 4096) (l : Fin 200) (d : Fin 512) (h : (I (ix3 r l 0)).toNat < 1000) :
    (rowsAt.operandIdx (ix3 r l d) I (0 : Fin 2)).val = (I (ix3 r l 0)).toNat := by
  show rowsAt.start (ix3 r l d) I (0 : Fin 2) + rowsAt.batchCoord (ix3 r l d) (0 : Fin 2) + rowsAt.offCoord (ix3 r l d) (0 : Fin 2) = _
  rw [GatherDims.batchCoord_eq_zero _ _ _ List.not_mem_nil,
    GatherDims.offCoord_eq_zero _ _ _ (fun h => ((GatherDims.mem_sKept _ _).mp h).1 (List.mem_singleton.mpr rfl)), Nat.add_zero]
  unfold GatherDims.start
  rw [dif_pos (show (0 : Fin 2) ∈ rowsAt.startIndexMap from List.mem_singleton.mpr rfl)]
  have hsi : rowsAt.siIdx (ix3 r l d) ⟨List.idxOf (0 : Fin 2) rowsAt.startIndexMap, List.idxOf_lt_length_iff.2 (List.mem_singleton.mpr rfl)⟩ = ix3 r l 0 := by
    funext b; refine Fin.ext ?_
    match b with
    | ⟨0, _⟩ => rfl
    | ⟨1, _⟩ => rfl
    | ⟨2, _⟩ => rfl
  rw [hsi, toInt_tok _ h]
  show min (I (ix3 r l 0)).toNat (1000 - 1) = _
  omega

/-- Its column is the output's. -/
theorem gather_col (I : IVec S4096x200x1 32) (r : Fin 4096) (l : Fin 200) (d : Fin 512) :
    (rowsAt.operandIdx (ix3 r l d) I (1 : Fin 2)).val = d.val := by
  show rowsAt.start (ix3 r l d) I (1 : Fin 2) + rowsAt.batchCoord (ix3 r l d) (1 : Fin 2) + rowsAt.offCoord (ix3 r l d) (1 : Fin 2) = _
  rw [GatherDims.batchCoord_eq_zero _ _ _ List.not_mem_nil, Nat.add_zero]
  unfold GatherDims.start
  rw [dif_neg (show (1 : Fin 2) ∉ rowsAt.startIndexMap by decide), Nat.zero_add]
  rfl

/-- The row a token in range gathers. -/
theorem gather_tok (e : S1000x512.Idx → EReal) (I : IVec S4096x200x1 32) (r : Fin 4096) (l : Fin 200) (d : Fin 512) (h : (I (ix3 r l 0)).toNat < 1000) :
    Host.gather rowsAt e I (ix3 r l d) = row e (I (ix3 r l 0)).toNat d := by
  unfold Host.gather row
  rw [dif_pos h]
  refine congrArg e (funext fun a => Fin.ext ?_)
  match a with
  | ⟨0, _⟩ => exact gather_row I r l d h
  | ⟨1, _⟩ => exact gather_col I r l d

/-! ## A row's sum and its count -/

theorem tokAll_at (x : S4096x200.Idx → BitVec 32) (r : Fin 4096) (l : Fin 200) : tokAll x r.val l.val = (x (ix2 r l)).toNat := by
  unfold tokAll
  rw [dif_pos ⟨r.isLt, l.isLt⟩]
  exact congrArg (fun i => (x i).toNat) (funext fun a => match a with | ⟨0, _⟩ => rfl | ⟨1, _⟩ => rfl)

/-- One token's term: its row, or nothing where it is zero. -/
theorem term_tok (w : BitVec 32) (h : w.toNat < 1000) (z : EReal) :
    z * (FloatOps.uitofp FTy.f32 (IntOp.cmpi CmpIPredicate.sgt w 0#32) : Ideal .f32) = if w.toNat = 0 then 0 else z := by
  rw [sgt_zero w h]
  by_cases h0 : w.toNat = 0
  · rw [if_pos h0, if_pos h0]
    show z * ((((0#1).toNat : ℝ)) : EReal) = 0
    simp
  · rw [if_neg h0, if_neg h0]
    show z * ((((1#1).toNat : ℝ)) : EReal) = z
    simp

/-- The words of the nonzero tokens' indicators add to their number. -/
theorem count_tok (x : S4096x200.Idx → BitVec 32) (h : ∀ j, (x j).toNat < 1000) (r : Fin 4096) :
    (FloatOps.sitofp FTy.f32 ((Finset.univ : Finset (Fin 200)).fold IntOp.addi (0#32) fun l =>
      BitVec.setWidth 32 (IntOp.cmpi CmpIPredicate.sgt (x (ix2 r l)) 0#32)) : Ideal .f32) = ((nonzero (tokAll x) r.val : ℕ) : EReal) := by
  rw [IndicatorCount.fold_addi_setWidth_eq_card]
  have hc : ((Finset.univ : Finset (Fin 200)).filter fun l => IntOp.cmpi CmpIPredicate.sgt (x (ix2 r l)) 0#32 = 1#1).card = nonzero (tokAll x) r.val := by
    unfold nonzero
    rw [Finset.card_filter, Finset.sum_range]
    refine Finset.sum_congr rfl fun l _ => ?_
    rw [sgt_zero _ (h _), tokAll_at]
    by_cases h0 : (x (ix2 r l)).toNat = 0 <;> simp [h0]
  have hle : nonzero (tokAll x) r.val ≤ 200 := le_of_le_of_eq (Nat.le_add_left _ _) (cnt_add_nonzero _ _)
  rw [hc]
  show (((BitVec.ofNat 32 (nonzero (tokAll x) r.val)).toInt : ℝ) : EReal) = _
  rw [BitVec.toInt_eq_toNat_of_lt (by rw [BitVec.toNat_ofNat]; omega), BitVec.toNat_ofNat, Nat.mod_eq_of_lt (by omega)]
  rw [Int.cast_natCast, EReal.coe_coe_eq_natCast]

end Cert.Proof.Hist

end
-- ==== Proof.Reference.lean ====
/-
  The reference's result over the extended reals: the rows it gathers, masked, summed and divided, through the two dense
  layers, is `answer` of the arguments.
-/
module

public import proofs.«01_k».proof.Proof.Pooled
public import proofs.«01_k».proof.Proof.Gen.ReferenceIdeal.Run

@[expose] public section

noncomputable section

namespace Cert.Proof.Hist

open Idealize.ShloMosaic
open Cert.ReferenceIdeal

/-- One bound is checked, and it holds. -/
theorem fold_inside : (Finset.univ : Finset (Fin 1)).fold IntOp.andi (1#1) (fun _ => 1#1) = 1#1 := rfl

theorem select_inside (a b : EReal) : Scalar.select (1#1) a b = a := rfl

/-! ## The run -/

open Idealize.ShloMosaic.TcCoe

/-- The reference's run, read: the result is `answer` of the arguments, which end unchanged. -/
theorem reference_value (m : (ℓ : Loc nD τ sig) → Buf (Elt Ideal) ℓ) (ρ : Dev nD → PrngReg)
    (h : ∀ (c : Dev nD) (j : S4096x200.Idx), (m ((c : Thread nD τ).loc main_arg0) j).toNat < 1000) :
    θ_run defs (onTc (τ := τ) (main (F := Ideal))) ⟨m, fun _ => 0, ρ⟩ fun r => ∀ c : Dev nD,
      r.2.mem ((c : Thread nD τ).loc main_v22) = answer (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r hr c => ⟨(hr c).1.trans ?_, (hr c).2⟩) (Value.run (F := Ideal) m ρ)
  have hx := h c
  clear hr h
  generalize m ((c : Thread nD τ).loc main_arg0) = x at hx ⊢
  generalize m ((c : Thread nD τ).loc main_arg1) = e
  generalize m ((c : Thread nD τ).loc main_arg2) = W1
  generalize m ((c : Thread nD τ).loc main_arg3) = b1
  generalize m ((c : Thread nD τ).loc main_arg4) = W2
  generalize m ((c : Thread nD τ).loc main_arg5) = b2
  funext (j : S4096x1000.Idx)
  pointwise
  generalize hI : broadcastInDim S4096x200x1 _ _ _ = I
  have hI' : ∀ (r : Fin 4096) (l : Fin 200), I (ix3 r l 0) = x (ix2 r l) := by
    intro r l
    subst hI
    pointwise
    exact wrap_tok _ (hx _)
  clear hI
  have hg : ∀ (r : Fin 4096) (l : Fin 200) (d : Fin 512), Host.gather rowsAt e I (ix3 r l d) = row e (x (ix2 r l)).toNat d := by
    intro r l d
    rw [gather_tok e I r l d (by rw [hI']; exact hx _), hI']
  simp only [wrap_tok _ (hx _), inside_tok _ (hx _), fold_inside, select_inside, term_tok _ (hx _)]
  refine congrArg (· + b2 (ix1 (j 1))) (Finset.sum_congr rfl fun k _ => congrArg (fun z => max (z + b1 (ix1 k)) 0 * W2 (ix2 k (j 1)))
    (Finset.sum_congr rfl fun d _ => congrArg (· * W1 (ix2 d k)) (congrArg₂ Ideal.div ?_ ?_)))
  · unfold rowSum
    rw [Finset.sum_range]
    refine Finset.sum_congr rfl fun l _ => ?_
    rw [tokAll_at x (j 0) l]
    exact congrArg (ite _ 0) (hg (j 0) l d)
  · exact (congrArg (FloatOps.sitofp FTy.f32) (Shape.ReducesTo.fold_fiber_r2_a1 _ (ix1 (j 0)) IntOp.addi (0#32) _)).trans (count_tok x hx (j 0))

end Cert.Proof.Hist

end
-- ==== Proof.Agree.lean ====
/-
  The kernel and the reference agree over the extended reals: each ends with `answer` of the same arguments.
-/
module

public import proofs.«01_k».proof.Proof.Frames
public import proofs.«01_k».proof.Proof.Dense
public import proofs.«01_k».proof.Proof.Reference

@[expose] public section

noncomputable section

namespace Cert.Proof.Hist

open Cert.KernelIdeal Cert.KernelIdeal.Gen

open Idealize.ShloMosaic Idealize.ShloMosaic.TcCoe Idealize.SL.Sem

theorem algebraic : Cert.algebraic_KernelIdeal_ReferenceIdeal := by
  intro m g m' g' hpre hargs
  have tok : ∀ (d : Dev nD) (j : S4096x200.Idx), (X₀ m d j).toNat < 1000 := fun d j => tok_of_pre (F := Ideal) _ _ _ _ _ _ (hpre d) j
  refine ⟨fun c => result (fun c b => V3 m c b) c, ?_, ?_⟩
  · exact (θ_run Cert.KernelIdeal.defs _ _).mono (fun _ h => h.1) (run_read m g fun d j => (tok d j).trans (by decide))
  · refine (θ_run Cert.ReferenceIdeal.defs _ _).mono (fun r h c => ⟨(h c).1.trans ?_, (h c).2⟩)
      (reference_value m' g' fun c j => (congrArg (fun x : S4096x200.Idx → BitVec 32 => (x j).toNat) (hargs c).1).trans_lt (tok c j))
    obtain ⟨h0, h1, h2, h3, h4, h5⟩ := hargs c
    refine Eq.trans ?_ (kernel_value m c (tok c)).symm
    rw [h0, h1, h2, h3, h4, h5]

end Cert.Proof.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Hist.frame_kernel, Hist.frame_ideal, Hist.frame_reference, Hist.frame_reference_pre, trivial, Hist.algebraic⟩

end Cert.Proof

end
